-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x32 .f32) (main_arg2 : IVec S512x1 32) (main_arg3 : FVec F S4x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 32#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Pre_routed_ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x32 .f32) (main_arg2 : IVec S512x1 32) (main_arg3 : FVec F S32x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 32#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Kernel.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S64x512 : Shape := ⟨2, ![64, 512]⟩
abbrev S384x512 : Shape := ⟨2, ![384, 512]⟩
abbrev S512x2 : Shape := ⟨2, ![512, 2]⟩
abbrev S7 : Shape := ⟨1, ![7]⟩
abbrev S8 : Shape := ⟨1, ![8]⟩
abbrev S_ : Shape := ⟨0, ![]⟩
abbrev S512x32 : Shape := ⟨2, ![512, 32]⟩
abbrev S512x512 : Shape := ⟨2, ![512, 512]⟩
abbrev S512 : Shape := ⟨1, ![512]⟩
abbrev S512x48 : Shape := ⟨2, ![512, 48]⟩
abbrev S48x256 : Shape := ⟨2, ![48, 256]⟩
abbrev S12x256 : Shape := ⟨2, ![12, 256]⟩
abbrev S1x256x512 : Shape := ⟨3, ![1, 256, 512]⟩
abbrev S256x512 : Shape := ⟨2, ![256, 512]⟩
abbrev S12x512 : Shape := ⟨2, ![12, 512]⟩
abbrev S48x512 : Shape := ⟨2, ![48, 512]⟩
abbrev S1 : Shape := ⟨1, ![1]⟩
abbrev S64x2 : Shape := ⟨2, ![64, 2]⟩
abbrev S64x1 : Shape := ⟨2, ![64, 1]⟩
abbrev S64x384 : Shape := ⟨2, ![64, 384]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S4x256x512, .f32⟩
  | .hbm, ⟨4, _⟩ => ⟨S64x512, .f32⟩
  | .local _ .vmem, ⟨0, _⟩ => ⟨S512x256, .f32⟩
  | .local _ .vmem, ⟨1, _⟩ => ⟨S4x256x512, .f32⟩
  | .local _ .vmem, ⟨2, _⟩ => ⟨S512x1, .i32⟩
  | .local _ .vmem, ⟨3, _⟩ => ⟨S64x512, .f32⟩
  | .local _ .vmem, ⟨4, _⟩ => ⟨S384x512, .bf16⟩
  | .local _ .vmem, ⟨5, _⟩ => ⟨S512x2, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c48_i32_56 : BitVec 32 := 48#32
  let v98 : BitVec 32 := Scalar.muli v2 c48_i32_56
  let v99 : Index := Scalar.indexCast v98
  let c0_57 : Index := 0#32
  ![v99.toNat, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c48_i32_60 : BitVec 32 := 48#32
  let v104 : BitVec 32 := Scalar.muli v2 c48_i32_60
  let c0_i32_66 : BitVec 32 := 0#32
  ![v104.toNat, 0]
def k0_dev8 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v105 : BitVec 32 := Scalar.addi v2 c1_i32_61
  let c8_i32_62 : BitVec 32 := 8#32
  let v106 : BitVec 32 := Scalar.remsi v105 c8_i32_62
  let c1_i32_64 : BitVec 32 := 1#32
  let v107 : BitVec 32 := Scalar.muli v106 c1_i32_64
  let v108 : BitVec 32 := Scalar.addi c0_i32_65 v107
  v108.toNat
def k0_dev9 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_70 : BitVec 32 := 2#32
  let v117 : BitVec 32 := Scalar.addi v2 c2_i32_70
  let c8_i32_71 : BitVec 32 := 8#32
  let v118 : BitVec 32 := Scalar.remsi v117 c8_i32_71
  let c1_i32_73 : BitVec 32 := 1#32
  let v119 : BitVec 32 := Scalar.muli v118 c1_i32_73
  let v120 : BitVec 32 := Scalar.addi c0_i32_74 v119
  v120.toNat
def k0_dev10 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_79 : BitVec 32 := 3#32
  let v129 : BitVec 32 := Scalar.addi v2 c3_i32_79
  let c8_i32_80 : BitVec 32 := 8#32
  let v130 : BitVec 32 := Scalar.remsi v129 c8_i32_80
  let c1_i32_82 : BitVec 32 := 1#32
  let v131 : BitVec 32 := Scalar.muli v130 c1_i32_82
  let v132 : BitVec 32 := Scalar.addi c0_i32_83 v131
  v132.toNat
def k0_dev11 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_88 : BitVec 32 := 4#32
  let v141 : BitVec 32 := Scalar.addi v2 c4_i32_88
  let c8_i32_89 : BitVec 32 := 8#32
  let v142 : BitVec 32 := Scalar.remsi v141 c8_i32_89
  let c1_i32_91 : BitVec 32 := 1#32
  let v143 : BitVec 32 := Scalar.muli v142 c1_i32_91
  let v144 : BitVec 32 := Scalar.addi c0_i32_92 v143
  v144.toNat
def k0_dev12 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_97 : BitVec 32 := 5#32
  let v153 : BitVec 32 := Scalar.addi v2 c5_i32_97
  let c8_i32_98 : BitVec 32 := 8#32
  let v154 : BitVec 32 := Scalar.remsi v153 c8_i32_98
  let c1_i32_100 : BitVec 32 := 1#32
  let v155 : BitVec 32 := Scalar.muli v154 c1_i32_100
  let v156 : BitVec 32 := Scalar.addi c0_i32_101 v155
  v156.toNat
def k0_dev13 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_106 : BitVec 32 := 6#32
  let v165 : BitVec 32 := Scalar.addi v2 c6_i32_106
  let c8_i32_107 : BitVec 32 := 8#32
  let v166 : BitVec 32 := Scalar.remsi v165 c8_i32_107
  let c1_i32_109 : BitVec 32 := 1#32
  let v167 : BitVec 32 := Scalar.muli v166 c1_i32_109
  let v168 : BitVec 32 := Scalar.addi c0_i32_110 v167
  v168.toNat
def k0_dev14 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_115 : BitVec 32 := 7#32
  let v177 : BitVec 32 := Scalar.addi v2 c7_i32_115
  let c8_i32_116 : BitVec 32 := 8#32
  let v178 : BitVec 32 := Scalar.remsi v177 c8_i32_116
  let c1_i32_118 : BitVec 32 := 1#32
  let v179 : BitVec 32 := Scalar.muli v178 c1_i32_118
  let v180 : BitVec 32 := Scalar.addi c0_i32_119 v179
  v180.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v187 : BitVec 32 := Scalar.muli v2 c64_i32
  let v188 : Index := Scalar.indexCast v187
  let c0_122 : Index := 0#32
  ![v188.toNat, 0]
def k0_off5 (d0 : Dev nD) (c1_i32_127 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_126 : BitVec 32 := 8#32
  let v204 : BitVec 32 := Scalar.addi v2 c8_i32_126
  let v205 : BitVec 32 := Scalar.subi v204 c1_i32_127
  let c8_i32_128 : BitVec 32 := 8#32
  let v206 : BitVec 32 := Scalar.remsi v205 c8_i32_128
  ![v206.toNat]
def k0_off6 (d0 : Dev nD) (c1_i32_127 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_126 : BitVec 32 := 8#32
  let v204 : BitVec 32 := Scalar.addi v2 c8_i32_126
  let v205 : BitVec 32 := Scalar.subi v204 c1_i32_127
  let c8_i32_128 : BitVec 32 := 8#32
  let v206 : BitVec 32 := Scalar.remsi v205 c8_i32_128
  let c48_i32_130 : BitVec 32 := 48#32
  let v208 : BitVec 32 := Scalar.muli v206 c48_i32_130
  let c0_i32_134 : BitVec 32 := 0#32
  ![v208.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S512 : Shape := ⟨1, ![512]⟩
abbrev S1x512 : Shape := ⟨2, ![1, 512]⟩
abbrev S512x512 : Shape := ⟨2, ![512, 512]⟩
abbrev S_ : Shape := ⟨0, ![]⟩
abbrev S512x256x512 : Shape := ⟨3, ![512, 256, 512]⟩

abbrev nBuf : Space → Nat
  | .hbm => 39
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S32x256x512, .f32⟩
  | .hbm, ⟨4, _⟩ => ⟨S512, .i32⟩
  | .hbm, ⟨5, _⟩ => ⟨S512, .i32⟩
  | .hbm, ⟨6, _⟩ => ⟨S512x1, .i32⟩
  | .hbm, ⟨7, _⟩ => ⟨S1x512, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S1x512, .i32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i32⟩
  | .hbm, ⟨18, _⟩ => ⟨S_, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512x256x512, .f32⟩
  | .hbm, ⟨29, _⟩ => ⟨S512x512, .f32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S512x1, .i1⟩
  | .hbm, ⟨34, _⟩ => ⟨S_, .f32⟩
  | .hbm, ⟨35, _⟩ => ⟨S_, .f32⟩
  | .hbm, ⟨36, _⟩ => ⟨S512x512, .i1⟩
  | .hbm, ⟨37, _⟩ => ⟨S512x512, .f32⟩
  | .hbm, ⟨38, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.KernelIdeal.Protocol.lean ====
/- The kernel's communication protocol: which cells there are, what each of them hands over, and what the
   eight devices' gather buffers hold once everything has arrived. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Ring
public import Idealize.ShloMosaic.Lib.Transfers
public import Idealize.ShloMosaic.Lib.ValueIdx
public import Idealize.ShloMosaic.Lib.Tactic

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal.Gen

variable {F : FTy → Type} [FloatOps F]

/-- The ghost state of the protocol: round states over the cells, duties named by how far away the payer sits. -/
abbrev UB : Type := URounds (GSem nD τ sig) (Fin 7)
/-- All ghost state: the pipeline's beside the protocol's. -/
abbrev UU : Type := UR sig nD τ × UB

local notation "𝕄" => MT nD τ sig Unit (Elt F) ℕ UU ℕ

/-- The pipeline's ghost state within the whole. -/
abbrev EP : Emb (UR sig nD τ) (MT nD τ sig Unit (Elt F) ℕ UU ℕ) := embL
/-- The protocol's ghost state within the whole. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

set_option backward.proofsInPublic true in
/-- The device `k + 1` places after `c` around the ring of eight: whom `c` signals and sends to at step `k`. -/
def peer (c : Dev nD) (k : Fin 7) : Dev nD := ⟨(c.val + 1 + k.val) % 8, Nat.mod_lt _ (by decide)⟩
set_option backward.proofsInPublic true in
/-- The device `k + 1` places before `c`: whose step `k` concerns `c`. -/
def frm (c : Dev nD) (k : Fin 7) : Dev nD := ⟨(c.val + 7 - k.val) % 8, Nat.mod_lt _ (by decide)⟩

theorem frm_peer (c : Dev nD) (k : Fin 7) : frm (peer c k) k = c := by revert c k; decide
theorem peer_frm (c : Dev nD) (k : Fin 7) : peer (frm c k) k = c := by revert c k; decide
theorem frm_rev (c : Dev nD) (k : Fin 7) : frm c (Fin.rev k) = peer c k := by revert c k; decide
theorem peer_ne (c : Dev nD) (k : Fin 7) : peer c k ≠ c := by revert c k; decide
theorem frm_ne (c : Dev nD) (k : Fin 7) : frm c k ≠ c := by revert c k; decide
theorem frm_inj (c : Dev nD) : Function.Injective (frm c) := by revert c; decide
theorem peer_inj (c : Dev nD) : Function.Injective (peer c) := by revert c; decide

/-- Step `k` at `c` is step `k` of the device before it: a permutation of the devices. -/
def turn (k : Fin 7) : Dev nD ≃ Dev nD := ⟨fun c => peer c k, fun c => frm c k, fun c => frm_peer c k, fun c => peer_frm c k⟩

/-! ## The memrefs and the cells -/

abbrev gM : Memref sig .tc .vmem S384x512 .bf16 := Memref.whole cc0_scratch0
abbrev kM : Memref sig .tc .vmem S512x2 .f32 := Memref.whole cc0_scratch1

theorem rows_inb (o : Dev nD) : ∀ a, (![48 * o.val, 0] : Fin 2 → Nat) a + S48x512.size a ≤ S384x512.size a := by
  revert o; decide

/-- Device `o`'s rows `[48 o, 48 o + 48)` of a gather buffer. -/
def rowsM (o : Dev nD) : Memref sig .tc .vmem S48x512 .bf16 :=
  gM.slice (Rect.unit (s := S384x512) ![48 * o.val, 0] S48x512.size (rows_inb o)) (fun _ => rfl)

/-- The elements of device `o`'s rows. -/
abbrev rowsSet (o : Dev nD) : Finset S384x512.Idx := (Rect.unit (s := S384x512) ![48 * o.val, 0] S48x512.size (rows_inb o)).set

theorem rowsM_set (o : Dev nD) : (rowsM o).view.set = rowsSet o := View.set_slice_whole _ _

theorem mem_rowsSet (o : Dev nD) (i : S384x512.Idx) : i ∈ rowsSet o ↔ (i 0).val / 48 = o.val := by
  have h0 : (i 0).val < 384 := (i 0).isLt
  have h1 : (i 1).val < 512 := (i 1).isLt
  rw [rowsSet, Rect.mem_set_unit, Fin.forall_fin_two]
  simp only [Matrix.cons_val_zero, Matrix.cons_val_one]
  show (48 * o.val ≤ (i 0).val ∧ (i 0).val < 48 * o.val + 48) ∧ (0 ≤ (i 1).val ∧ (i 1).val < 0 + 512) ↔ _
  omega

/-- The runtime's barrier semaphore. -/
abbrev barS : Sem sig := (SemArray.scalar (sig.barrier 0 rfl) : Sems sig S_).sem

set_option backward.proofsInPublic true in
/-- The semaphore on which device `c` learns that its step-`k` transfer has left. -/
def sendSem (k : Fin 7) : DmaSem sig := (⟨4 + k.val, by have := k.isLt; show 4 + k.val < 19; omega⟩ : Fin 19)
set_option backward.proofsInPublic true in
/-- The semaphore on which a device learns that device `o`'s rows have arrived. -/
def recvSem (o : Dev nD) : DmaSem sig := (⟨11 + o.val, by have : o.val < 8 := o.isLt; show 11 + o.val < 19; omega⟩ : Fin 19)

abbrev barCell (c : Dev nD) : GSem nD τ sig := ((c : Thread nD τ), .reg barS)
abbrev sendCell (c : Dev nD) (k : Fin 7) : GSem nD τ sig := ((c : Thread nD τ), .dma (sendSem k))
abbrev recvCell (c : Dev nD) (o : Dev nD) : GSem nD τ sig := ((c : Thread nD τ), .dma (recvSem o))

/-- The units one transfer of 48 rows credits. -/
def N : ℕ := (rowsM 0).view.dmaCredit
theorem N_pos : 0 < N := View.dmaCredit_pos _ (by decide)

/-! ## Contents -/

/-- The staged tokens of device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The staged weights of device `c`'s four experts. -/
def wstg (c : Dev nD) : (cc0_stg1_0 : Ref sig .tc).ty.Contents (Elt F) :=
  (win0_1.blk (0 : Fin 1)).view.read (Elt F) ((s₀ m ρ).mem ((c : Thread nD τ).loc main_arg3))
/-- The staged expert numbers. -/
def rstg (c : Dev nD) : (cc0_stg2_0 : Ref sig .tc).ty.Contents (Elt F) :=
  (win0_2.blk (0 : Fin 1)).view.read (Elt F) ((s₀ m ρ).mem ((c : Thread nD τ).loc main_arg2))

/-- Device `c`'s own number as the program computes it. -/
def meWord (c : Dev nD) : BitVec 32 := Scalar.remsi (Scalar.divsi (Dev.word c) 1#32) 8#32

/-- The weights of one expert, as loaded from the staged block at offset `off`. -/
def wRead (f : (cc0_stg1_0 : Ref sig .tc).ty.Contents (Elt F)) (off : Fin 3 → Nat) (h : ∀ a, off a + S1x256x512.size a ≤ S4x256x512.size a) :
    Vec F S1x256x512 .f32 :=
  ((Memref.whole cc0_stg1_0 : Memref sig .tc .vmem S4x256x512 .f32).access (Rect.unit (s := S4x256x512) off S1x256x512.size h)).read (Elt F) f

/-- The 48 rows a device with number word `me` computes: one for each slot of its four experts. -/
def chunkOf (me : BitVec 32) (x : Vec F S512x256 .f32) (w : (cc0_stg1_0 : Ref sig .tc).ty.Contents (Elt F)) (r : Vec F S512x1 .i32) :
    FVec F S48x512 .bf16 :=
  k0_pay9 (k0_pay8 me (k0_pay3 r) (k0_pay4 r) x (wRead w _ inb_S4x256x512_S1x256x512_0_0_0)
    (wRead w _ inb_S4x256x512_S1x256x512_1_0_0) (wRead w _ inb_S4x256x512_S1x256x512_2_0_0) (wRead w _ inb_S4x256x512_S1x256x512_3_0_0))

/-- The rows device `c` computes. -/
def chunk (c : Dev nD) : FVec F S48x512 .bf16 := chunkOf (meWord c) (xstg m ρ c) (wstg m ρ c) (rstg m ρ c)

set_option backward.proofsInPublic true in
/-- The device whose rows hold row `i`. -/
def ownerOf (i : S384x512.Idx) : Dev nD :=
  (⟨(i 0).val / 48, by have h : (i 0).val < 384 := (i 0).isLt; show (i 0).val / 48 < 8; omega⟩ : Fin 8)
set_option backward.proofsInPublic true in
/-- Where row `i` lies within its owner's rows. -/
def within (i : S384x512.Idx) : S48x512.Idx :=
  ix2 (⟨(i 0).val % 48, Nat.mod_lt _ (by decide)⟩ : Fin 48) (i 1)

/-- What every device's gather buffer holds once all rows have arrived: row `48 o + s` is row `s` of device `o`'s. -/
def gathered : S384x512.Idx → Elt F .bf16 := fun i => chunk m ρ (ownerOf i) (within i)

/-- Device `p`'s rows for device `o`, held at contents `f` with share `q`. -/
def rowsAt (p o : Dev nD) (q : PosShare TreeShare) (f : S384x512.Idx → Elt F .bf16) : sProp 𝕄 :=
  ((p : Thread nD τ).loc cc0_scratch0) ↦[rowsSet o]{q} f

instance rowsAt_storable (p o : Dev nD) (q) (f) : BI.Storable (upEmb : UEmb _ 𝕄) (rowsAt (F := F) p o q f) := by
  unfold rowsAt; infer_instance

/-- The share of its own rows device `c` lends to its step-`k` transfer. -/
def lent (k : Fin 7) : PosShare TreeShare := Transfers.dealOf fullShare Finset.univ k

/-! ## The schedule -/

/-- A step-`k` signal to `c` hands over the payer's rows for `c`, at whatever contents, and that the payer's cell for `c`'s
    rows has reached its round. -/
def barPay (c : Dev nD) (k : Fin 7) : sProp 𝕄 :=
  iprop((∃ f, rowsAt (frm c k) c fullShare f) ∗ reached ER (recvCell (frm c k) c) 0)

/-- The duties of round 0 at device `c`'s semaphores: seven signals on the barrier, one completion on each send semaphore,
    one arrival on each other device's receive semaphore. -/
def dutiesAt (c : Dev nD) : SemLoc sig → Finset (Fin 7)
  | .reg s => if s = barS then Finset.univ else ∅
  | .dma q => if 4 ≤ q.val ∧ q.val < 19 ∧ q.val ≠ 11 + c.val then {0} else ∅

set_option backward.proofsInPublic true in
/-- What a duty hands to the owner of device `c`'s semaphore: at the barrier the payer's rows, at a send semaphore the share
    of the own rows lent to the transfer, at a receive semaphore the rows arrived. -/
def payloadAt (c : Dev nD) (d : Fin 7) : SemLoc sig → sProp 𝕄
  | .reg _ => barPay c d
  | .dma q => if h : q.val - 4 < 7 then rowsAt c c (lent ⟨q.val - 4, h⟩) (gathered m ρ)
      else if h : q.val - 11 < 8 then rowsAt c (⟨q.val - 11, h⟩ : Fin 8) fullShare (gathered m ρ) else iprop(emp)

/-- One round: round 0, one unit for each signal and a transfer's units for each transfer. -/
def sched : Rounds.Schedule (GSem nD τ sig) (Fin 7) 𝕄 where
  duties g r := if r = 0 ∧ g.1.2 = .tc then dutiesAt g.1.1 g.2 else ∅
  unitless _ := False
  amount g _ _ := if g.2 = .reg barS then 1 else N
  payload g _ d := payloadAt m ρ g.1.1 d g.2
  amount_pos g _ _ _ := by
    split
    · exact Nat.one_pos
    · exact N_pos

instance sched_storable (g : GSem nD τ sig) (r : ℕ) (d : Fin 7) :
    BI.Storable (upEmb : UEmb _ 𝕄) ((sched (F := F) m ρ).payload g r d) := by
  show BI.Storable upEmb (payloadAt m ρ g.1.1 d g.2)
  unfold payloadAt barPay
  (repeat' split) <;> infer_instance

/-! ### The schedule read at each kind of cell -/

theorem duties_bar (c : Dev nD) : (sched (F := F) m ρ).duties (barCell c) 0 = Finset.univ := by
  show (if 0 = 0 ∧ (c : Thread nD τ).2 = .tc then dutiesAt c (.reg barS) else ∅) = _
  rw [if_pos ⟨rfl, rfl⟩]
  show (if barS = barS then Finset.univ else ∅) = _
  rw [if_pos rfl]
theorem duties_send (c : Dev nD) (k : Fin 7) : (sched (F := F) m ρ).duties (sendCell c k) 0 = {0} := by
  show (if 0 = 0 ∧ (c : Thread nD τ).2 = .tc then dutiesAt c (.dma (sendSem k)) else ∅) = _
  rw [if_pos ⟨rfl, rfl⟩]; revert c k; decide
theorem duties_recv {c o : Dev nD} (h : o ≠ c) : (sched (F := F) m ρ).duties (recvCell c o) 0 = {0} := by
  show (if 0 = 0 ∧ (c : Thread nD τ).2 = .tc then dutiesAt c (.dma (recvSem o)) else ∅) = _
  rw [if_pos ⟨rfl, rfl⟩]; revert c o; decide
theorem duties_own (c : Dev nD) : (sched (F := F) m ρ).duties (recvCell c c) 0 = ∅ := by
  show (if 0 = 0 ∧ (c : Thread nD τ).2 = .tc then dutiesAt c (.dma (recvSem c)) else ∅) = _
  rw [if_pos ⟨rfl, rfl⟩]; revert c; decide
theorem duties_later (g : GSem nD τ sig) (r : ℕ) (hr : 1 ≤ r) : (sched (F := F) m ρ).duties g r = ∅ :=
  if_neg fun h => by omega
theorem duties_own_all (c : Dev nD) (r : ℕ) : (sched (F := F) m ρ).duties (recvCell c c) r = ∅ := by
  rcases Nat.eq_zero_or_pos r with rfl | h
  · exact duties_own m ρ c
  · exact duties_later m ρ _ _ h

theorem amount_bar (c : Dev nD) (r : ℕ) (k : Fin 7) : (sched (F := F) m ρ).amount (barCell c) r k = 1 := by
  show (if (barCell c).2 = .reg barS then 1 else N) = 1
  rw [if_pos rfl]
theorem amount_dma (c : Dev nD) (q : DmaSem sig) (r : ℕ) (k : Fin 7) :
    (sched (F := F) m ρ).amount ((c : Thread nD τ), .dma q) r k = N := by
  show (if SemLoc.dma q = .reg barS then 1 else N) = N
  rw [if_neg (by simp)]

theorem expect_bar (c : Dev nD) : (sched (F := F) m ρ).expect (barCell c) 0 = 7 := by
  unfold Schedule.expect Schedule.amountOf
  rw [duties_bar]; simp only [amount_bar]; rfl
theorem expect_send (c : Dev nD) (k : Fin 7) : (sched (F := F) m ρ).expect (sendCell c k) 0 = N := by
  unfold Schedule.expect Schedule.amountOf
  rw [duties_send, Finset.sum_singleton, amount_dma]
theorem expect_recv {c o : Dev nD} (h : o ≠ c) : (sched (F := F) m ρ).expect (recvCell c o) 0 = N := by
  unfold Schedule.expect Schedule.amountOf
  rw [duties_recv m ρ h, Finset.sum_singleton, amount_dma]

theorem payload_bar (c : Dev nD) (r : ℕ) (k : Fin 7) : (sched (F := F) m ρ).payload (barCell c) r k = barPay c k := rfl
theorem payload_send (c : Dev nD) (k : Fin 7) (r : ℕ) (d : Fin 7) :
    (sched (F := F) m ρ).payload (sendCell c k) r d = rowsAt c c (lent k) (gathered m ρ) := by
  show payloadAt m ρ c d (.dma (sendSem k)) = _
  have h : (sendSem k).val - 4 = k.val := by show 4 + k.val - 4 = k.val; omega
  simp only [payloadAt]
  rw [dif_pos (by rw [h]; exact k.isLt)]
  congr 2; exact Fin.ext h
theorem payload_recv (c o : Dev nD) (r : ℕ) (d : Fin 7) :
    (sched (F := F) m ρ).payload (recvCell c o) r d = rowsAt c o fullShare (gathered m ρ) := by
  show payloadAt m ρ c d (.dma (recvSem o)) = _
  have ho : o.val < 8 := o.isLt
  have h : (recvSem o).val - 11 = o.val := by show 11 + o.val - 11 = o.val; omega
  have h' : ¬ (recvSem o).val - 4 < 7 := by show ¬ 11 + o.val - 4 < 7; omega
  simp only [payloadAt]
  rw [dif_neg h', dif_pos (by rw [h]; exact ho)]
  congr 1; exact Fin.ext h

theorem rest_bar (c : Dev nD) : bigSep ((sched (F := F) m ρ).duties (barCell c) 0 \ ∅) ((sched (F := F) m ρ).payload (barCell c) 0)
    = bigSep Finset.univ fun k => barPay c k := by
  rw [duties_bar, Finset.sdiff_empty]; rfl
theorem rest_send (c : Dev nD) (k : Fin 7) : bigSep ((sched (F := F) m ρ).duties (sendCell c k) 0 \ ∅) ((sched (F := F) m ρ).payload (sendCell c k) 0)
    = rowsAt c c (lent k) (gathered m ρ) := by
  rw [duties_send, Finset.sdiff_empty, bigSep_singleton, payload_send]
theorem rest_recv {c o : Dev nD} (h : o ≠ c) : bigSep ((sched (F := F) m ρ).duties (recvCell c o) 0 \ ∅) ((sched (F := F) m ρ).payload (recvCell c o) 0)
    = rowsAt c o fullShare (gathered m ρ) := by
  rw [duties_recv m ρ h, Finset.sdiff_empty, bigSep_singleton, payload_recv]

/-! ## What is owed, and the levels -/

/-- The last `n` of the arrivals device `c` owes, the next one outermost. -/
def owedSends (c : Dev nD) : ℕ → CellTallies nD τ sig Unit
  | 0 => 0
  | n + 1 => owedSends c n + tallyAt (recvCell (peer c (Fin.ofNat 7 (6 - n))) c) () N
/-- The last `n` of the signals device `c` owes, the next one outermost, over all its arrivals. -/
def owedSignals (c : Dev nD) : ℕ → CellTallies nD τ sig Unit
  | 0 => owedSends c 7
  | n + 1 => owedSignals c n + tallyAt (barCell (peer c (Fin.ofNat 7 (6 - n)))) () 1
/-- What device `c` owes at launch: a signal and an arrival to each other device. -/
abbrev O₀ (c : Dev nD) : CellTallies nD τ sig Unit := owedSignals c 7

def L (g : GSem nD τ sig) : Finset Unit := if g.1.2 = .tc then {()} else ∅
/-- Everything a device owes lies above what it waits for: the staging semaphores and the send semaphores at 0, the barrier
    at 1, the receive semaphores at 2. -/
def lv (g : GSem nD τ sig) (_ : Unit) : ℕ :=
  match g.2 with
  | .reg s => if s = barS then 1 else 0
  | .dma q => if 11 ≤ q.val then 2 else 0

theorem L_of_ne (g : GSem nD τ sig) (h : g.1.2 ≠ .tc) : L g = ∅ := if_neg h
theorem lv_bar (c : Dev nD) : lv (barCell c) () = 1 := by revert c; decide
theorem lv_recv (c o : Dev nD) : lv (recvCell c o) () = 2 := by revert c o; decide
theorem lv_send (c : Dev nD) (k : Fin 7) : lv (sendCell c k) () = 0 := by revert c k; decide

theorem mem_L (c : Dev nD) (q : SemLoc sig) : () ∈ L ((c : Thread nD τ), q) := by
  unfold L; rw [if_pos rfl]; exact Finset.mem_singleton_self _

/-- What is owed of arrivals at a cell: a transfer's units for each step whose peer's cell it is. -/
theorem owedSends_apply (c : Dev nD) (n : ℕ) (g : GSem nD τ sig) (u : Unit) :
    owedSends c n g u = ∑ i ∈ Finset.range n, if g = recvCell (peer c (Fin.ofNat 7 (6 - i))) c then N else 0 := by
  induction n with
  | zero => rfl
  | succ n ih =>
    rw [Finset.sum_range_succ, ← ih, owedSends, Pi.add_apply, Finsupp.add_apply, tallyAt_apply]
    cases u; simp

/-- What is owed at a cell: one unit for each step whose peer's barrier it is, over the arrivals. -/
theorem owedSignals_apply (c : Dev nD) (n : ℕ) (g : GSem nD τ sig) (u : Unit) :
    owedSignals c n g u = owedSends c 7 g u + ∑ i ∈ Finset.range n, if g = barCell (peer c (Fin.ofNat 7 (6 - i))) then 1 else 0 := by
  induction n with
  | zero => rfl
  | succ n ih =>
    rw [Finset.sum_range_succ, ← add_assoc, ← ih, owedSignals, Pi.add_apply, Finsupp.add_apply, tallyAt_apply]
    cases u; simp

/-- A cell at which arrivals are owed is some device's receive cell. -/
theorem owedSends_pos {c : Dev nD} {n : ℕ} {g : GSem nD τ sig} {u : Unit} (h : 0 < owedSends c n g u) : ∃ d, g = recvCell d c := by
  rw [owedSends_apply] at h
  obtain ⟨i, -, hi⟩ := Finset.exists_ne_zero_of_sum_ne_zero h.ne'
  exact ⟨_, by_contra fun hne => hi (if_neg hne)⟩

/-- A cell at which anything is owed is a receive cell or a barrier cell. -/
theorem owedSignals_pos {c : Dev nD} {n : ℕ} {g : GSem nD τ sig} {u : Unit} (h : 0 < owedSignals c n g u) :
    (∃ d, g = recvCell d c) ∨ ∃ d, g = barCell d := by
  rw [owedSignals_apply] at h
  rcases Nat.eq_zero_or_pos (owedSends c 7 g u) with h0 | h0
  · rw [h0, Nat.zero_add] at h
    obtain ⟨i, -, hi⟩ := Finset.exists_ne_zero_of_sum_ne_zero h.ne'
    exact Or.inr ⟨_, by_contra fun hne => hi (if_neg hne)⟩
  · exact Or.inl (owedSends_pos h0)

/-! ### Distinct cells -/

theorem bar_inj {c d : Dev nD} (h : barCell c = barCell d) : c = d := by
  have h1 := congrArg Prod.fst h
  exact congrArg Prod.fst h1
theorem recvSem_inj {o o' : Dev nD} (h : recvSem o = recvSem o') : o = o' := by revert o o'; decide
theorem recv_inj {c d o o' : Dev nD} (h : recvCell c o = recvCell d o') : c = d ∧ o = o' :=
  ⟨congrArg Prod.fst (congrArg Prod.fst h), recvSem_inj (SemLoc.dma.inj (congrArg Prod.snd h))⟩
theorem bar_ne_recv (c d o : Dev nD) : barCell c ≠ recvCell d o := fun h => nomatch congrArg Prod.snd h

/-- All devices together owe seven units at each barrier. -/
theorem owed_bar_sum (c : Dev nD) : ∑ d, O₀ d (barCell c) () = 7 := by
  have h : ∀ d, O₀ d (barCell c) () = ∑ i ∈ Finset.range 7, if peer d (Fin.ofNat 7 (6 - i)) = c then 1 else 0 := fun d => by
    rw [owedSignals_apply, owedSends_apply, Finset.sum_eq_zero fun i _ => if_neg (bar_ne_recv _ _ _), Nat.zero_add]
    refine Finset.sum_congr rfl fun i _ => if_congr ⟨fun h => (bar_inj h).symm, fun h => by rw [h]⟩ rfl rfl
  rw [Finset.sum_congr rfl fun d _ => h d]
  clear h
  revert c; decide

/-- All devices together owe a transfer's units at each receive cell of another device's rows. -/
theorem owed_recv_sum {c o : Dev nD} (hne : o ≠ c) : ∑ d, O₀ d (recvCell c o) () = N := by
  have h : ∀ d, O₀ d (recvCell c o) () = N * ∑ i ∈ Finset.range 7, if peer d (Fin.ofNat 7 (6 - i)) = c ∧ d = o then 1 else 0 := fun d => by
    rw [owedSignals_apply, owedSends_apply, Finset.sum_eq_zero (s := Finset.range 7) (f := fun i => if recvCell c o = barCell _ then 1 else 0)
      fun i _ => if_neg (bar_ne_recv _ _ _).symm, Nat.add_zero, Finset.mul_sum]
    refine Finset.sum_congr rfl fun i _ => ?_
    rw [mul_ite, Nat.mul_one, Nat.mul_zero]
    exact if_congr ⟨fun h => ⟨(recv_inj h).1.symm, (recv_inj h).2.symm⟩, fun h => by rw [h.1, h.2]⟩ rfl rfl
  rw [Finset.sum_congr rfl fun d _ => h d, ← Finset.mul_sum]
  have h1 : ∑ d, ∑ i ∈ Finset.range 7, (if peer d (Fin.ofNat 7 (6 - i)) = c ∧ d = o then 1 else 0) = 1 := by
    clear h
    revert c o; decide
  rw [h1, Nat.mul_one]

end Cert.KernelIdeal.Moe

end
-- ==== Proof.KernelIdeal.Steps.lean ====
/- One lemma for each kind of step the kernel takes in its protocol: a signal, the barrier's wait, a transfer, a wait for
   an arrival, a wait for a departure. Each says how the state of the phase moves from step `k` to step `k + 1`. -/
module

public import proofs.«01_k».proof.Proof.KernelIdeal.Protocol

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Seven things taken one after the other -/

/-- What is left of seven resources from number `n` on. -/
def todo (Φ : Fin 7 → sProp 𝕄) (n : ℕ) : sProp 𝕄 := bigSep (Finset.univ.filter fun k : Fin 7 => n ≤ k.val) Φ
/-- What has come of seven resources before number `n`. -/
def done (Φ : Fin 7 → sProp 𝕄) (n : ℕ) : sProp 𝕄 := bigSep (Finset.univ.filter fun k : Fin 7 => k.val < n) Φ

theorem todo_zero (Φ : Fin 7 → sProp 𝕄) : todo Φ 0 = bigSep Finset.univ Φ := by
  unfold todo; congr 1
theorem todo_next (Φ : Fin 7 → sProp 𝕄) (k : Fin 7) : todo Φ k.val = iprop(Φ k ∗ todo Φ (k.val + 1)) := by
  unfold todo
  rw [show (Finset.univ.filter fun j : Fin 7 => k.val ≤ j.val) = insert k (Finset.univ.filter fun j : Fin 7 => k.val + 1 ≤ j.val) by
    revert k; decide]
  exact bigSep_insert (by simp)
theorem todo_end (Φ : Fin 7 → sProp 𝕄) : todo Φ 7 = iprop(emp) := by
  unfold todo
  rw [show (Finset.univ.filter fun k : Fin 7 => 7 ≤ k.val) = ∅ by decide, bigSep_empty]
  rfl
theorem done_zero (Φ : Fin 7 → sProp 𝕄) : done Φ 0 = iprop(emp) := by
  unfold done
  rw [show (Finset.univ.filter fun k : Fin 7 => k.val < 0) = ∅ by decide, bigSep_empty]
  rfl
theorem done_next (Φ : Fin 7 → sProp 𝕄) (k : Fin 7) : done Φ (k.val + 1) = iprop(Φ k ∗ done Φ k.val) := by
  unfold done
  rw [show (Finset.univ.filter fun j : Fin 7 => j.val < k.val + 1) = insert k (Finset.univ.filter fun j : Fin 7 => j.val < k.val) by
    revert k; decide]
  exact bigSep_insert (by simp)
theorem done_end (Φ : Fin 7 → sProp 𝕄) : done Φ 7 = bigSep Finset.univ Φ := by
  unfold done
  rw [show (Finset.univ.filter fun k : Fin 7 => k.val < 7) = Finset.univ by decide]

/-- The other devices are those one to seven places after `c`, -/
theorem bigSep_peers (c : Dev nD) (Φ : Dev nD → sProp 𝕄) :
    bigSep Finset.univ Φ = iprop(Φ c ∗ bigSep Finset.univ fun k : Fin 7 => Φ (peer c k)) := by
  rw [bigSep_univ_at Φ c, show (Finset.univ.erase c : Finset (Dev nD)) = Finset.univ.map ⟨peer c, peer_inj c⟩ by revert c; decide, bigSep_map]
  rfl
/-- and those one to seven places before it. -/
theorem bigSep_frms (c : Dev nD) (Φ : Dev nD → sProp 𝕄) :
    bigSep Finset.univ Φ = iprop(Φ c ∗ bigSep Finset.univ fun k : Fin 7 => Φ (frm c k)) := by
  rw [bigSep_univ_at Φ c, show (Finset.univ.erase c : Finset (Dev nD)) = Finset.univ.map ⟨frm c, frm_inj c⟩ by revert c; decide, bigSep_map]
  rfl

/-! ## The gather buffer in rows -/

/-- A gather buffer held whole is its eight devices' rows. -/
theorem rows_split (c : Dev nD) (q : PosShare TreeShare) (f : S384x512.Idx → Elt F .bf16) :
    ((((c : Thread nD τ).loc cc0_scratch0) ↦{q} f : sProp 𝕄)) = bigSep Finset.univ fun o => rowsAt c o q f := by
  have hd : ∀ b b' : Dev nD, b ≠ b' → Disjoint (rowsSet b) (rowsSet b') := fun b b' h => by
    rw [Finset.disjoint_left]
    intro i hi hi'
    rw [mem_rowsSet] at hi hi'
    exact h (Fin.ext (hi.symm.trans hi'))
  have hc : (Finset.univ : Finset (Dev nD)).biUnion rowsSet = Finset.univ :=
    Finset.eq_univ_iff_forall.mpr fun i => Finset.mem_biUnion.mpr ⟨ownerOf i, Finset.mem_univ _, (mem_rowsSet _ _).mpr rfl⟩
  unfold rowsAt
  exact Ring.pointsTo_blocks (ℓ := (c : Thread nD τ).loc cc0_scratch0) (B := Dev nD) rowsSet hd hc f

/-- A device's own rows held in full are the seven shares lent to its transfers. -/
theorem rows_lend (c : Dev nD) (f : S384x512.Idx → Elt F .bf16) :
    (rowsAt c c fullShare f : sProp 𝕄) = bigSep Finset.univ fun k => rowsAt c c (lent k) f := by
  unfold rowsAt lent
  exact Transfers.pointsTo_deal Finset.univ Finset.univ_nonempty fullShare

/-! ## The cells by number -/

set_option backward.proofsInPublic true in
/-- A device's sixteen semaphores: the barrier, the seven send semaphores, the eight receive semaphores. -/
def csem (i : Fin 16) : SemLoc sig :=
  if i.val = 0 then .reg barS else .dma (⟨3 + i.val, by have := i.isLt; show 3 + i.val < 19; omega⟩ : Fin 19)
abbrev kcell (ck : Dev nD × Fin 16) : GSem nD τ sig := ((ck.1 : Thread nD τ), csem ck.2)

set_option backward.proofsInPublic true in
def numS (k : Fin 7) : Fin 16 := ⟨1 + k.val, by omega⟩
set_option backward.proofsInPublic true in
def numR (o : Dev nD) : Fin 16 := ⟨8 + o.val, by have : o.val < 8 := o.isLt; omega⟩

theorem csem_send (k : Fin 7) : csem (numS k) = .dma (sendSem k) := by revert k; decide
theorem csem_recv (o : Dev nD) : csem (numR o) = .dma (recvSem o) := by revert o; decide

/-- What every device knows throughout: each cell's invariant, and that each cell has reached its round. -/
def records (K : Dev nD × Fin 16 → ℕ) : sProp 𝕄 :=
  iprop((bigSep Finset.univ fun ck => cellInv ER (sched m ρ) (K ck) (kcell ck)) ∗ bigSep Finset.univ fun ck => reached ER (kcell ck) 0)

instance records_persistent (K : Dev nD × Fin 16 → ℕ) : BI.Persistent (records (F := F) m ρ K) := by
  unfold records; infer_instance

theorem inv_of (K : Dev nD × Fin 16 → ℕ) (ck : Dev nD × Fin 16) : records m ρ K ⊢ cellInv ER (sched m ρ) (K ck) (kcell ck) := by
  have h : (bigSep Finset.univ fun ck => (cellInv ER (sched m ρ) (K ck) (kcell ck) : sProp 𝕄)) ⊢ cellInv ER (sched m ρ) (K ck) (kcell ck) :=
    bigSep_elim (Finset.mem_univ ck)
  unfold records
  iintro ⟨H, -⟩
  iapply h; iexact H
theorem reached_of (K : Dev nD × Fin 16 → ℕ) (ck : Dev nD × Fin 16) : records m ρ K ⊢ reached ER (kcell ck) 0 := by
  have h : (bigSep Finset.univ fun ck => (reached ER (kcell ck) 0 : sProp 𝕄)) ⊢ reached ER (kcell ck) 0 := bigSep_elim (Finset.mem_univ ck)
  unfold records
  iintro ⟨-, H⟩
  iapply h; iexact H

variable (K : Dev nD × Fin 16 → ℕ)

theorem inv_bar (c : Dev nD) : records m ρ K ⊢ cellInv ER (sched m ρ) (K (c, 0)) (barCell c) := inv_of m ρ K (c, 0)
theorem inv_send (c : Dev nD) (k : Fin 7) : records m ρ K ⊢ cellInv ER (sched m ρ) (K (c, numS k)) (sendCell c k) := by
  have h := inv_of m ρ K (c, numS k)
  unfold kcell at h; rwa [csem_send] at h
theorem inv_recv (c o : Dev nD) : records m ρ K ⊢ cellInv ER (sched m ρ) (K (c, numR o)) (recvCell c o) := by
  have h := inv_of m ρ K (c, numR o)
  unfold kcell at h; rwa [csem_recv] at h
theorem reached_bar (c : Dev nD) : records m ρ K ⊢ reached ER (barCell c) 0 := reached_of m ρ K (c, 0)
theorem reached_send (c : Dev nD) (k : Fin 7) : records m ρ K ⊢ reached ER (sendCell c k) 0 := by
  have h := reached_of m ρ K (c, numS k)
  unfold kcell at h; rwa [csem_send] at h
theorem reached_recv (c o : Dev nD) : records m ρ K ⊢ reached ER (recvCell c o) 0 := by
  have h := reached_of m ρ K (c, numR o)
  unfold kcell at h; rwa [csem_recv] at h

/-! ## Waiting is safe -/

/-- At its barrier wait a device owes arrivals only, and they lie above the barrier. -/
theorem mayWait_bar (c : Dev nD) : (levAts L lv : sProp 𝕄) ⊢ MayWait (c : Thread nD τ) (.reg barS) () (owedSends c 7) :=
  MayOwe.of_cut (L := L) (lev := lv) 1 (fun p hp => by rw [Finset.mem_singleton.mp hp]; exact mem_L c _)
    (fun g u hg => by obtain ⟨d, rfl⟩ := owedSends_pos hg; exact mem_L d _)
    (fun p hp => by rw [Finset.mem_singleton.mp hp]; exact (lv_bar c).le)
    (fun g u hg => by obtain ⟨d, rfl⟩ := owedSends_pos hg; rw [lv_recv]; decide)

/-- At a staging semaphore a device may wait whatever it still owes. -/
theorem mayWait_stage (c : Dev nD) (q : DmaSem sig) (hq : q.val < 11) (O : CellTallies nD τ sig Unit) (hO : O = O₀ c ∨ O = 0) :
    (levAts L lv : sProp 𝕄) ⊢ MayWait (c : Thread nD τ) (.dma q) () O := by
  have hl : lv ((c : Thread nD τ), .dma q) () = 0 := by show (if 11 ≤ q.val then 2 else 0) = 0; rw [if_neg (by omega)]
  rcases hO with rfl | rfl
  · exact MayOwe.of_cut (L := L) (lev := lv) 0 (fun p hp => by rw [Finset.mem_singleton.mp hp]; exact mem_L c _)
      (fun g u hg => by rcases owedSignals_pos hg with ⟨d, rfl⟩ | ⟨d, rfl⟩ <;> exact mem_L d _)
      (fun p hp => by rw [Finset.mem_singleton.mp hp]; exact hl.le)
      (fun g u hg => by
        rcases owedSignals_pos hg with ⟨d, rfl⟩ | ⟨d, rfl⟩
        · rw [lv_recv]; decide
        · rw [lv_bar]; decide)
  · rw [MayWait_zero]; iintro -; iempintro

/-! ## The steps -/

abbrev 𝒱₀ : Variants := Variants.none

/-- Device `c` owes `O`, whatever it has waited for. -/
def owing (c : Dev nD) (O : CellTallies nD τ sig Unit) : sProp 𝕄 := iprop(∃ W, owes (c : Thread nD τ) O W)

/-- What the step-`k` signal spends: its duty's token and the rows the peer will fill. -/
def sigRes (c : Dev nD) (k : Fin 7) : sProp 𝕄 :=
  iprop(dutyTok ER (barCell (peer c k)) 0 k ∗ ∃ f, rowsAt c (peer c k) fullShare f)
/-- Before the signal of step `n`. -/
def sigState (c : Dev nD) (n : ℕ) : sProp 𝕄 := iprop(owing c (owedSignals c (7 - n)) ∗ todo (sigRes c) n)

theorem owedSignals_step (c : Dev nD) (k : Fin 7) :
    owedSignals c (7 - k.val) = owedSignals c (7 - (k.val + 1)) + tallyAt (barCell (peer c k)) () 1 := by
  fin_cases k <;> rfl
theorem owedSends_step (c : Dev nD) (k : Fin 7) :
    owedSends c (7 - k.val) = owedSends c (7 - (k.val + 1)) + tallyAt (recvCell (peer c k) c) () N := by
  fin_cases k <;> rfl

/-- The step-`k` signal, to the device `k + 1` places on. -/
theorem signal_step (c : Dev nD) (k : Fin 7) (n : Dev nD) (hn : n = peer c k) {u : ℕ} (hu : 1 = u)
    {α : Type} (kk : PUnit → Prog (TpuEff nD τ sig (Elt F) Λ₀ .tc) α) (Q : α → sProp 𝕄) :
    iprop(records m ρ K ∗ sigState c k.val)
      ⊢ iprop((sigState c (k.val + 1) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barS u) kk) Q) := by
  subst hn hu
  unfold sigState owing
  rw [todo_next]
  unfold sigRes
  iintro ⟨#HI, ⟨%W, HO⟩, ⟨Ht, Hrows⟩, Hrest⟩ Hk
  iapply (Rounds.wp_signal 𝒱₀ ER (sched m ρ) (c : Thread nD τ) none (dst := (peer c k : Thread nD τ)) (κ := K (peer c k, 0))
      (d := k) (by rw [duties_bar]; exact Finset.mem_univ _) (amount_bar m ρ (peer c k) 0 k) ()
      (owedSignals c (7 - (k.val + 1))) (owedSignals_step c k)) $$ [HO Ht Hrows]
  · isplitr; · iapply (inv_bar m ρ K (peer c k)); iexact HI
    isplitl [HO]; · iexact HO
    isplitl [Ht]; · iexact Ht
    isplitl [Hrows]
    · rw [payload_bar]; unfold barPay; rw [frm_peer]
      isplitl [Hrows]; · iexact Hrows
      iapply (reached_recv m ρ K c (peer c k)); iexact HI
    · iapply (reached_bar m ρ K (peer c k)); iexact HI
  iintro HO
  iapply Hk
  isplitl [HO]
  · iexists W; iexact HO
  iexact Hrest

/-- The wait for all seven signals: every other device's rows for `c` come with it, and the barrier is at zero again. -/
theorem barrier_step (c : Dev nD) {u : ℕ} (hu : u = 7)
    {α : Type} (kk : PUnit → Prog (TpuEff nD τ sig (Elt F) Λ₀ .tc) α) (Q : α → sProp 𝕄) :
    iprop(records m ρ K ∗ levAts L lv ∗ owing c (owedSends c 7) ∗ cred (tallyAt (barCell c) () 7) ∗ atPos ER (barCell c) 0 ∅ 0)
      ⊢ iprop(((owing c (owedSends c 7) ∗ semVal (barCell c) 0 ∗ bigSep Finset.univ (fun k => barPay (F := F) c k))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS u) kk) Q) := by
  subst hu
  unfold owing
  iintro ⟨#HI, #Hlev, ⟨%W, HO⟩, Hc, Hat⟩ Hk
  iapply (Rounds.wp_wait_rest_token 𝒱₀ ER (sched m ρ) (c : Thread nD τ) none (κ := K (c, 0))
      (wpE_semWait_eq 𝒱₀ (c : Thread nD τ) none Set.univ) (Set.mem_univ _) () (O := owedSends c 7) (W := W) (R := 0) (m := 0) (T := ∅)
      (by rw [expect_bar])) $$ [Hc HO Hat]
  · isplitr; · iapply (inv_bar m ρ K c); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (sched m ρ) (Set.mem_univ (K (c, 0))) (fun h => h) (R := 0 + 1) (duties_later m ρ (barCell c))) $$ [Hat] with Hz
  · isplitr; · iapply (inv_bar m ρ K c); iexact HI
    iexact Hat
  iapply Hk
  isplitl [HO]
  · iexists _; iexact HO
  isplitl [Hz]; · iexact Hz
  iexact Hp

/-- What the step-`k` transfer spends: its two duties' tokens, the share of the own rows it reads, the rows it fills. -/
def sendRes (c : Dev nD) (k : Fin 7) : sProp 𝕄 :=
  iprop(dutyTok ER (sendCell c k) 0 0 ∗ dutyTok ER (recvCell (peer c k) c) 0 0 ∗ rowsAt c c (lent k) (gathered m ρ)
    ∗ ∃ f, rowsAt (peer c k) c fullShare f)
/-- Before the transfer of step `n`. -/
def sendState (c : Dev nD) (n : ℕ) : sProp 𝕄 :=
  iprop(owing c (owedSends c (7 - n)) ∗ todo (sendRes m ρ c) n ∗ done (fun k => cred (tallyAt (sendCell c k) () N)) n)

/-- Rows copied from one gather buffer to another: the target's rows hold what the source's did. -/
theorem rows_copied (o : Dev nD) (fd fs : (rowsM o).view.ty.Contents (Elt F)) :
    ∀ i ∈ (rowsM o).view.set, (rowsM o).view.write (Elt F) fd ((rowsM o).view.read (Elt F) fs) Finset.univ i = fs i := by
  intro i hi
  obtain ⟨x, -, rfl⟩ := Finset.mem_map.mp hi
  rw [View.write_emb_of_mem _ _ (Finset.mem_univ x)]
  rfl

/-- The step-`k` transfer: own rows to the same rows of the device `k + 1` places on. -/
theorem send_step (c : Dev nD) (k : Fin 7) (n : Dev nD) (hn : n = peer c k) (off : Fin 2 → Nat) (hoff : off = ![48 * c.val, 0])
    (inb : ∀ a, off a + S48x512.size a ≤ S384x512.size a) (st)
    (sS rS : DmaSem sig) (hS : sS = sendSem k) (hR : rS = recvSem c) {hsc hsrc hdst hsem}
    {α : Type} (kk : PUnit → Prog (TpuEff nD τ sig (Elt F) Λ₀ .tc) α) (Q : α → sProp 𝕄) :
    iprop(records m ρ K ∗ sendState m ρ c k.val)
      ⊢ iprop((sendState m ρ c (k.val + 1) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (gM.slice (Rect.unit (s := S384x512) off S48x512.size inb) st)
              (.remote (Dev.tc n : Thread nD τ) (gM.slice (Rect.unit (s := S384x512) off S48x512.size inb) st) (.dma sS) hsc) (.dma rS) hsrc hdst hsem) kk) Q) := by
  subst hn hoff hS hR
  unfold sendState owing
  rw [todo_next, done_next]
  unfold sendRes
  iintro ⟨#HI, ⟨%W, HO⟩, ⟨⟨Ht1, Ht2, Hown, ⟨%fd, Hrows⟩⟩, Hrest⟩, Hdone⟩ Hk
  ihave Hown' := (Entails.of_eq (show (rowsAt c c (lent k) (gathered m ρ) : sProp 𝕄)
    = ((rowsM c).view.loc (c : Thread nD τ) ↦[(rowsM c).view.set]{lent k} gathered m ρ) by rw [rowsM_set]; rfl)) $$ Hown
  ihave Hrows' := (Entails.of_eq (show (rowsAt (peer c k) c fullShare fd : sProp 𝕄)
    = ((rowsM c).view.loc (peer c k : Thread nD τ) ↦[(rowsM c).view.set]{fullShare} fd) by rw [rowsM_set]; rfl)) $$ Hrows
  iapply (Rounds.wp_send_pointsTo 𝒱₀ ER (sched m ρ) (c : Thread nD τ) none (κ₁ := K (c, numS k)) (κ₂ := K (peer c k, numR c))
    (c' := (peer c k : Thread nD τ)) (src := rowsM c) (dst := rowsM c) (sS := .dma (sendSem k)) (sem := .dma (recvSem c))
    (r₁ := 0) (r₂ := 0) (d₁ := 0) (d₂ := 0) (fs := gathered m ρ) (fd := fd) (q := lent k)
    (by rw [duties_send]; exact Finset.mem_singleton_self _) (by rw [duties_recv m ρ (peer_ne c k).symm]; exact Finset.mem_singleton_self _)
    () () N rfl (amount_dma m ρ c _ 0 0) (amount_dma m ρ (peer c k) _ 0 0) (owedSends c (7 - (k.val + 1))) (owedSends_step c k) (W := W)
    (by rw [payload_send, rowsM_set]; exact BI.Entails.refl _)
    (by rw [payload_recv, pointsTo_congr (rows_copied c fd (gathered m ρ)), rowsM_set]; exact BI.Entails.refl _))
    $$ [HO Ht1 Ht2 Hown' Hrows']
  · isplitr; · iapply (inv_send m ρ K c k); iexact HI
    isplitr; · iapply (inv_recv m ρ K (peer c k) c); iexact HI
    isplitl [Hown']; · iexact Hown'
    isplitl [Hrows']; · iexact Hrows'
    isplitl [HO]; · iexact HO
    isplitl [Ht1]; · iexact Ht1
    isplitr; · iapply (reached_send m ρ K c k); iexact HI
    isplitl [Ht2]; · iexact Ht2
    iapply (reached_recv m ρ K (peer c k) c); iexact HI
  iintro ⟨Hc, HO⟩
  iapply Hk
  isplitl [HO]
  · iexists W; iexact HO
  isplitl [Hrest]; · iexact Hrest
  isplitl [Hc]; · iexact Hc
  iexact Hdone

/-- Before the wait of step `n` for an arrival: the credit and the position for each wait to come, the rows arrived and the
    semaphore at zero for each wait past. -/
def recvState (c : Dev nD) (n : ℕ) : sProp 𝕄 :=
  iprop(owing c 0
    ∗ todo (fun k => iprop(cred (tallyAt (recvCell c (frm c k)) () N) ∗ atPos ER (recvCell c (frm c k)) 0 ∅ 0)) n
    ∗ done (fun k => iprop(rowsAt c (frm c k) fullShare (gathered m ρ) ∗ semVal (recvCell c (frm c k)) 0)) n)

/-- Before the wait of step `n` for a departure: likewise, with the share lent to the transfer coming back. -/
def sentState (c : Dev nD) (n : ℕ) : sProp 𝕄 :=
  iprop(owing c 0
    ∗ todo (fun k => iprop(cred (tallyAt (sendCell c k) () N) ∗ atPos ER (sendCell c k) 0 ∅ 0)) n
    ∗ done (fun k => iprop(rowsAt c c (lent k) (gathered m ρ) ∗ semVal (sendCell c k) 0)) n)

/-- A wait for one whole transfer on a cell with one duty: its payload comes, and the semaphore is at zero for good. -/
theorem dma_wait (c : Dev nD) (q : DmaSem sig) (κ : ℕ) (P : sProp 𝕄)
    (hexp : (sched m ρ).expect ((c : Thread nD τ), .dma q) 0 = N)
    (hrest : bigSep ((sched m ρ).duties ((c : Thread nD τ), .dma q) 0 \ ∅) ((sched m ρ).payload ((c : Thread nD τ), .dma q) 0) = P)
    (src dst : Memref sig .tc .vmem S48x512 .bf16) (hN : dst.view.dmaCredit = N) {hs hd}
    {α : Type} (kk : PUnit → Prog (TpuEff nD τ sig (Elt F) Λ₀ .tc) α) (Q : α → sProp 𝕄) :
    iprop(cellInv ER (sched m ρ) κ ((c : Thread nD τ), .dma q) ∗ owing c 0 ∗ cred (tallyAt ((c : Thread nD τ), .dma q) () N)
        ∗ atPos ER ((c : Thread nD τ), .dma q) 0 ∅ 0)
      ⊢ iprop(((owing c 0 ∗ P ∗ semVal ((c : Thread nD τ), .dma q) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hs hd) kk) Q) := by
  unfold owing
  iintro ⟨#HI, ⟨%W, HO⟩, Hc, Hat⟩ Hk
  iapply (Rounds.wp_wait_rest_token 𝒱₀ ER (sched m ρ) (c : Thread nD τ) none (κ := κ)
      (wpE_waitDma2_eq 𝒱₀ (c : Thread nD τ) none Set.univ) (Set.mem_univ _) () (O := 0) (W := W) (R := 0) (m := 0) (T := ∅)
      (by rw [Nat.zero_add, hexp, ← hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq hrest) $$ Hpay
  imod (Rounds.cell_close ER (sched m ρ) (Set.mem_univ κ) (fun h => h) (R := 0 + 1) (duties_later m ρ _)) $$ [Hat] with Hz
  · isplitr; · iexact HI
    iexact Hat
  iapply Hk
  isplitl [HO]
  · iexists _; iexact HO
  isplitl [Hp]; · iexact Hp
  iexact Hz

/-- Any 48 rows of the gather buffer credit the same. -/
theorem credit_rows (off : Fin 2 → Nat) (inb : ∀ a, off a + S48x512.size a ≤ S384x512.size a) (st) :
    (gM.slice (Rect.unit (s := S384x512) off S48x512.size inb) st : Memref sig .tc .vmem S48x512 .bf16).view.dmaCredit = N := rfl

/-- The step-`k` wait for an arrival: the rows of the device `k + 1` places before. -/
theorem recv_step (c : Dev nD) (k : Fin 7) (off off' : Fin 2 → Nat) (inb : ∀ a, off a + S48x512.size a ≤ S384x512.size a)
    (inb' : ∀ a, off' a + S48x512.size a ≤ S384x512.size a) (st) (st')
    (rS : DmaSem sig) (hR : rS = recvSem (frm c k)) {hs hd}
    {α : Type} (kk : PUnit → Prog (TpuEff nD τ sig (Elt F) Λ₀ .tc) α) (Q : α → sProp 𝕄) :
    iprop(records m ρ K ∗ recvState m ρ c k.val)
      ⊢ iprop((recvState m ρ c (k.val + 1) -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 rS (gM.slice (Rect.unit (s := S384x512) off S48x512.size inb) st)
              (gM.slice (Rect.unit (s := S384x512) off' S48x512.size inb') st') hs hd) kk) Q) := by
  subst hR
  unfold recvState
  rw [todo_next, done_next]
  iintro ⟨#HI, HO, ⟨⟨Hc, Hat⟩, Hrest⟩, Hdone⟩ Hk
  iapply (dma_wait m ρ c (recvSem (frm c k)) (K (c, numR (frm c k))) _ (expect_recv m ρ (frm_ne c k)) (rest_recv m ρ (frm_ne c k))
    _ _ (credit_rows _ _ _)) $$ [HO Hc Hat]
  · isplitr; · iapply (inv_recv m ρ K c (frm c k)); iexact HI
    isplitl [HO]; · iexact HO
    isplitl [Hc] <;> iassumption
  iintro ⟨HO, Hp, Hz⟩
  iapply Hk
  isplitl [HO]; · iexact HO
  isplitl [Hrest]; · iexact Hrest
  isplitl [Hp Hz]
  · isplitl [Hp] <;> iassumption
  iexact Hdone

/-- The step-`k` wait for a departure: the share of the own rows lent to the step-`k` transfer comes back. -/
theorem sent_step (c : Dev nD) (k : Fin 7) (off off' : Fin 2 → Nat) (inb : ∀ a, off a + S48x512.size a ≤ S384x512.size a)
    (inb' : ∀ a, off' a + S48x512.size a ≤ S384x512.size a) (st) (st')
    (sS : DmaSem sig) (hS : sS = sendSem k) {hs hd}
    {α : Type} (kk : PUnit → Prog (TpuEff nD τ sig (Elt F) Λ₀ .tc) α) (Q : α → sProp 𝕄) :
    iprop(records m ρ K ∗ sentState m ρ c k.val)
      ⊢ iprop((sentState m ρ c (k.val + 1) -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 sS (gM.slice (Rect.unit (s := S384x512) off S48x512.size inb) st)
              (gM.slice (Rect.unit (s := S384x512) off' S48x512.size inb') st') hs hd) kk) Q) := by
  subst hS
  unfold sentState
  rw [todo_next, done_next]
  iintro ⟨#HI, HO, ⟨⟨Hc, Hat⟩, Hrest⟩, Hdone⟩ Hk
  iapply (dma_wait m ρ c (sendSem k) (K (c, numS k)) _ (expect_send m ρ c k) (rest_send m ρ c k)
    _ _ (credit_rows _ _ _)) $$ [HO Hc Hat]
  · isplitr; · iapply (inv_send m ρ K c k); iexact HI
    isplitl [HO]; · iexact HO
    isplitl [Hc] <;> iassumption
  iintro ⟨HO, Hp, Hz⟩
  iapply Hk
  isplitl [HO]; · iexact HO
  isplitl [Hrest]; · iexact Hrest
  isplitl [Hp Hz]
  · isplitl [Hp] <;> iassumption
  iexact Hdone

/-! ## From phase to phase -/

theorem sig_start (c : Dev nD) (f : S384x512.Idx → Elt F .bf16) :
    iprop(owing c (O₀ c) ∗ (bigSep Finset.univ fun k : Fin 7 => dutyTok ER (barCell (peer c k)) 0 k)
        ∗ bigSep Finset.univ fun k : Fin 7 => rowsAt c (peer c k) fullShare f) ⊢ (sigState c 0 : sProp 𝕄) := by
  have h : (bigSep Finset.univ fun k : Fin 7 => (rowsAt c (peer c k) fullShare f : sProp 𝕄))
      ⊢ bigSep Finset.univ fun k : Fin 7 => iprop(∃ f, rowsAt c (peer c k) fullShare f) :=
    bigSep_mono fun k _ => by
      show (rowsAt c (peer c k) fullShare f : sProp 𝕄) ⊢ iprop(∃ f, rowsAt c (peer c k) fullShare f)
      iintro H; iexists f; iexact H
  unfold sigState sigRes
  rw [todo_zero, bigSep_sep']
  iintro ⟨HO, Ht, Hr⟩
  isplitl [HO]; · iexact HO
  isplitl [Ht]; · iexact Ht
  iapply h; iexact Hr

theorem sig_end (c : Dev nD) : (sigState c ((6 : Fin 7).val + 1) : sProp 𝕄) ⊢ owing c (owedSends c 7) := by
  unfold sigState
  iintro ⟨HO, -⟩; iexact HO

/-- The seven signals received hand over, for each transfer to come, the rows it fills. -/
theorem rows_handed (c : Dev nD) : (bigSep Finset.univ fun k => barPay (F := F) c k)
    ⊢ bigSep Finset.univ fun k : Fin 7 => iprop(∃ f, rowsAt (F := F) (peer c k) c fullShare f) := by
  rw [bigSep_univ_equiv Fin.revPerm]
  refine bigSep_mono fun k _ => ?_
  show barPay c (Fin.rev k) ⊢ _
  unfold barPay
  rw [frm_rev]
  iintro ⟨H, -⟩; iexact H

theorem send_start (c : Dev nD) :
    iprop(owing c (owedSends c 7) ∗ (bigSep Finset.univ fun k : Fin 7 => dutyTok ER (sendCell c k) 0 0)
        ∗ (bigSep Finset.univ fun k : Fin 7 => dutyTok ER (recvCell (peer c k) c) 0 0)
        ∗ rowsAt c c fullShare (gathered m ρ) ∗ bigSep Finset.univ fun k => barPay (F := F) c k) ⊢ sendState m ρ c 0 := by
  unfold sendState sendRes
  rw [todo_zero, done_zero, bigSep_sep', bigSep_sep', bigSep_sep', rows_lend]
  iintro ⟨HO, Ht, Hr, Hown, Hp⟩
  isplitl [HO]; · iexact HO
  isplitl [Ht Hr Hown Hp]
  · isplitl [Ht]; · iexact Ht
    isplitl [Hr]; · iexact Hr
    isplitl [Hown]; · iexact Hown
    iapply (rows_handed c); iexact Hp
  iempintro

theorem send_end (c : Dev nD) :
    sendState m ρ c ((6 : Fin 7).val + 1) ⊢ iprop(owing c 0 ∗ bigSep Finset.univ fun k : Fin 7 => cred (tallyAt (sendCell c k) () N)) := by
  show sendState m ρ c 7 ⊢ _
  unfold sendState
  rw [done_end]
  iintro ⟨HO, -, Hc⟩
  isplitl [HO]; · iexact HO
  iexact Hc

theorem recv_start (c : Dev nD) :
    iprop(owing c 0 ∗ (bigSep Finset.univ fun k : Fin 7 => cred (tallyAt (recvCell c (frm c k)) () N))
        ∗ bigSep Finset.univ fun k : Fin 7 => atPos ER (recvCell c (frm c k)) 0 ∅ 0) ⊢ recvState m ρ c 0 := by
  unfold recvState
  rw [todo_zero, done_zero, bigSep_sep']
  iintro ⟨HO, Hc, Hat⟩
  isplitl [HO]; · iexact HO
  isplitl [Hc Hat]
  · isplitl [Hc] <;> iassumption
  iempintro

theorem recv_end (c : Dev nD) :
    recvState m ρ c ((6 : Fin 7).val + 1) ⊢ iprop(owing c 0 ∗ (bigSep Finset.univ fun k : Fin 7 => rowsAt c (frm c k) fullShare (gathered m ρ))
      ∗ bigSep Finset.univ fun k : Fin 7 => semVal (recvCell c (frm c k)) 0) := by
  show recvState m ρ c 7 ⊢ _
  unfold recvState
  rw [done_end, bigSep_sep']
  iintro ⟨HO, -, Hd⟩
  isplitl [HO]; · iexact HO
  iexact Hd

theorem sent_start (c : Dev nD) :
    iprop(owing c 0 ∗ (bigSep Finset.univ fun k : Fin 7 => cred (tallyAt (sendCell c k) () N))
        ∗ bigSep Finset.univ fun k : Fin 7 => atPos ER (sendCell c k) 0 ∅ 0) ⊢ sentState m ρ c 0 := by
  unfold sentState
  rw [todo_zero, done_zero, bigSep_sep']
  iintro ⟨HO, Hc, Hat⟩
  isplitl [HO]; · iexact HO
  isplitl [Hc Hat]
  · isplitl [Hc] <;> iassumption
  iempintro

theorem sent_end (c : Dev nD) :
    sentState m ρ c ((6 : Fin 7).val + 1) ⊢ iprop(owing c 0 ∗ rowsAt c c fullShare (gathered m ρ)
      ∗ bigSep Finset.univ fun k : Fin 7 => semVal (sendCell c k) 0) := by
  show sentState m ρ c 7 ⊢ _
  unfold sentState
  rw [done_end, bigSep_sep', rows_lend]
  iintro ⟨HO, -, Hd⟩
  isplitl [HO]; · iexact HO
  iexact Hd

/-- A receive cell on which nothing ever arrives is at zero. -/
theorem own_closed (c : Dev nD) :
    iprop(records m ρ K ∗ atPos ER (recvCell c c) 0 ∅ 0) ⊢ |={Set.univ}=> semVal (recvCell c c) 0 := by
  iintro ⟨#HI, Hat⟩
  iapply (Rounds.cell_close ER (sched m ρ) (Set.mem_univ (K (c, numR c))) (fun h => h) (R := 0) (fun r _ => duties_own_all m ρ c r))
  isplitr; · iapply (inv_recv m ρ K c c); iexact HI
  iexact Hat

end Cert.KernelIdeal.Moe

end
-- ==== Proof.KernelIdeal.Buffers.lean ====
/- What the kernel's loads and stores make of its buffers: the two columns of slots and keep marks, the rows it computes,
   and the result it stores. -/
module

public import proofs.«01_k».proof.Proof.KernelIdeal.Protocol

@[expose] public section

set_option maxRecDepth 16384

noncomputable section

namespace Cert.KernelIdeal.Moe

open Idealize.ShloMosaic Idealize.ShloMosaic.TcCoe
open Idealize.ShloMosaic.ValueIdx (ix2 eq_ix2)
open Idealize.ShloMosaic.ValueKit (view_emb_slice_whole_unit_val)
open Cert.KernelIdeal.Gen

variable {F : FTy → Type} [FloatOps F]
variable (m : (ℓ : Loc nD τ sig) → Buf (Elt F) ℓ) (ρ : Dev nD → PrngReg)

theorem zero2 : (![0, 0] : Fin 2 → Nat) = fun _ => 0 := by funext a; fin_cases a <;> rfl

/-- Two columns side by side. -/
def twoCols (p q : S512x1.Idx → Elt F .f32) : S512x2.Idx → Elt F .f32 :=
  fun i => if (i 1).val = 0 then p (ix2 (i 0) (0 : Fin 1)) else q (ix2 (i 0) (0 : Fin 1))

abbrev colView (e : Nat) (inb : ∀ a, (![0, e] : Fin 2 → Nat) a + S512x1.size a ≤ S512x2.size a) :=
  (kM.access (Rect.unit (s := S512x2) ![0, e] S512x1.size inb))

/-- Storing one column and then the other leaves the two columns, whatever was there before. -/
theorem cols_stored (inb0 inb1) (f : (cc0_scratch1 : Ref sig .tc).ty.Contents (Elt F)) (p q : S512x1.Idx → Elt F .f32) :
    (colView 1 inb1).write (Elt F) ((colView 0 inb0).write (Elt F) f p Finset.univ) q Finset.univ = twoCols p q := by
  funext i
  have hi1 : (i 1).val < 2 := (i 1).isLt
  unfold twoCols
  by_cases h : (i 1).val = 0
  · rw [if_pos h, View.write_of_not_mem]
    · have hi : i = (colView 0 inb0).emb (ix2 (i 0) (0 : Fin 1)) := by
        funext a; apply Fin.ext
        refine Eq.trans ?_ (view_emb_slice_whole_unit_val cc0_scratch1 _ _ inb0 _ a).symm
        match a with
        | ⟨0, _⟩ => exact (Nat.zero_add _).symm
        | ⟨1, _⟩ => exact h
      conv_lhs => rw [hi]
      rw [View.write_emb_of_mem _ _ (Finset.mem_univ _)]
      rfl
    · rw [View.setOn_univ, View.set_slice_whole, Rect.mem_set_unit]
      intro hh
      have h1 : 1 ≤ (i 1).val := (hh 1).1
      omega
  · rw [if_neg h]
    have hi : i = (colView 1 inb1).emb (ix2 (i 0) (0 : Fin 1)) := by
      funext a; apply Fin.ext
      refine Eq.trans ?_ (view_emb_slice_whole_unit_val cc0_scratch1 _ _ inb1 _ a).symm
      match a with
      | ⟨0, _⟩ => exact (Nat.zero_add _).symm
      | ⟨1, _⟩ => show (i 1).val = 1 + 0; omega
    conv_lhs => rw [hi]
    rw [View.write_emb_of_mem _ _ (Finset.mem_univ _)]
    rfl

/-- Rows `[64 c, 64 c + 64)` of the two columns. -/
def ownCols (c : Dev nD) (p q : S512x1.Idx → Elt F .f32) : Vec F S64x2 .f32 := fun j =>
  twoCols p q (ix2 (⟨64 * c.val + (j 0).val, by
    have h : (j 0).val < 64 := (j 0).isLt
    have hc : c.val < 8 := c.isLt
    omega⟩ : Fin 512) (j 1))

/-- What a load of those rows reads. -/
theorem cols_loaded (c : Dev nD) (off : Fin 2 → Nat) (hoff : off = ![64 * c.val, 0]) (inb : ∀ a, off a + S64x2.size a ≤ S512x2.size a)
    (p q : S512x1.Idx → Elt F .f32) :
    (kM.access (Rect.unit (s := S512x2) off S64x2.size inb)).read (Elt F) (twoCols p q) = ownCols c p q := by
  subst hoff
  funext j
  show twoCols p q ((kM.access (Rect.unit (s := S512x2) _ S64x2.size inb)).emb j) = _
  unfold ownCols
  congr 1
  funext a; apply Fin.ext
  refine (view_emb_slice_whole_unit_val cc0_scratch1 _ _ inb _ a).trans ?_
  match a with
  | ⟨0, _⟩ => rfl
  | ⟨1, _⟩ => exact Nat.zero_add _

/-- Storing the rows a device computes leaves, on those rows, what every gather buffer will hold there. -/
theorem rows_stored (c : Dev nD) (off : Fin 2 → Nat) (hoff : off = ![48 * c.val, 0]) (inb : ∀ a, off a + S48x512.size a ≤ S384x512.size a)
    (f : (cc0_scratch0 : Ref sig .tc).ty.Contents (Elt F)) :
    ∀ i ∈ rowsSet c, (gM.access (Rect.unit (s := S384x512) off S48x512.size inb)).write (Elt F) f (chunk m ρ c) Finset.univ i = gathered m ρ i := by
  subst hoff
  intro i hi
  rw [mem_rowsSet] at hi
  have hi0 : (i 0).val < 384 := (i 0).isLt
  have he : i = (gM.access (Rect.unit (s := S384x512) _ S48x512.size inb)).emb (within i) := by
    funext a; apply Fin.ext
    refine Eq.trans ?_ (view_emb_slice_whole_unit_val cc0_scratch0 _ _ inb _ a).symm
    match a with
    | ⟨0, _⟩ => show (i 0).val = 48 * c.val + (i 0).val % 48; omega
    | ⟨1, _⟩ => exact (Nat.zero_add _).symm
  have ho : ownerOf i = c := Fin.ext hi
  conv_lhs => rw [he]
  rw [View.write_emb_of_mem _ _ (Finset.mem_univ _)]
  unfold gathered
  rw [ho]
  rfl

/-- The view a store or load of those rows goes through covers just them. -/
theorem rows_view_set (c : Dev nD) (off : Fin 2 → Nat) (hoff : off = ![48 * c.val, 0]) (inb : ∀ a, off a + S48x512.size a ≤ S384x512.size a) :
    (gM.access (Rect.unit (s := S384x512) off S48x512.size inb)).set ⊆ rowsSet c := by
  subst hoff
  rw [View.set_slice_whole]

/-- The slots and keep marks of the tokens a device returns rows for. -/
def slotsKept (c : Dev nD) (r : Vec F S512x1 .i32) : Vec F S64x2 .f32 := ownCols c (k0_pay5 r) (k0_pay7 (k0_pay6 r))

/-- The result of device `c`. -/
def outAt (c : Dev nD) : FVec F S64x512 .f32 :=
  k0_pay13 (k0_pay12 (k0_pay10 (slotsKept c (rstg m ρ c))) (k0_pay11 (slotsKept c (rstg m ρ c)))) (gathered m ρ)

end Cert.KernelIdeal.Moe

end
-- ==== Proof.KernelIdeal.Body.lean ====
/- The kernel's body on one device, from what it starts with to what it leaves. -/
module

public import proofs.«01_k».proof.Proof.KernelIdeal.Steps
public import proofs.«01_k».proof.Proof.KernelIdeal.Buffers
public import proofs.«01_k».proof.Proof.Gen.KernelIdeal.Points

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and what it leaves -/

/-- The tokens device `c` pays with: its seven signals', its seven transfers' at both ends. -/
def payToks (c : Dev nD) : sProp 𝕄 :=
  iprop((bigSep Finset.univ fun k : Fin 7 => dutyTok ER (barCell (peer c k)) 0 k)
    ∗ (bigSep Finset.univ fun k : Fin 7 => dutyTok ER (sendCell c k) 0 0)
    ∗ (bigSep Finset.univ fun k : Fin 7 => dutyTok ER (recvCell (peer c k) c) 0 0))

/-- Its positions at its own cells. -/
def positions (c : Dev nD) : sProp 𝕄 :=
  iprop(atPos ER (barCell c) 0 ∅ 0 ∗ (bigSep Finset.univ fun k : Fin 7 => atPos ER (sendCell c k) 0 ∅ 0)
    ∗ (bigSep Finset.univ fun o : Dev nD => atPos ER (recvCell c o) 0 ∅ 0))

/-- The protocol's ghost state at device `c`, the cells' invariants at the names `K`. -/
def ghost (K : Dev nD × Fin 16 → ℕ) (c : Dev nD) : sProp 𝕄 := iprop(records m ρ K ∗ positions c ∗ payToks c)

/-- The credit a device's waits spend: seven units at its barrier, a transfer's units for each other device's rows. -/
def credits (c : Dev nD) : sProp 𝕄 :=
  iprop(cred (tallyAt (barCell c) () 7) ∗ bigSep Finset.univ fun k : Fin 7 => cred (tallyAt (recvCell c (frm c k)) () N))

/-- What device `c`'s body starts from. -/
def start (c : Dev nD) : sProp 𝕄 := iprop((∃ K, ghost m ρ K c) ∗ credits c ∗ levAts L lv)

/-- Before the point: that, and the two scratch buffers at any contents. -/
def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After it: the scratch buffers at any contents, and every semaphore at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ semVal (barCell c) 0 ∗ (bigSep Finset.univ fun k : Fin 7 => semVal (sendCell c k) 0)
    ∗ (bigSep Finset.univ fun o : Dev nD => semVal (recvCell c o) 0))

/-- The proof data of the one region: the arrays as launched, each input's block left in place, the result's as computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => rstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ (F := F) c ∗ (dats m ρ 0 c).owesAt () t0_0.succ ∗ stg c cc0_stg0_0 (xstg m ρ c) ∗ stg c cc0_stg1_0 (wstg m ρ c)
    ∗ stg c cc0_stg2_0 (rstg m ρ c) ∗ stg c cc0_stg3_0 (outAt m ρ c))

theorem read_r (f : (cc0_stg2_0 : Ref sig .tc).ty.Contents (Elt F)) (inb : ∀ a, (![0, 0] : Fin 2 → Nat) a + S512x1.size a ≤ S512x1.size a) :
    ((Memref.whole cc0_stg2_0).access (Rect.unit (s := S512x1) ![0, 0] S512x1.size inb)).read (Elt F) f = f := Memref.readAt_unit_zero (Elt F) cc0_stg2_0 zero2 _ f
theorem read_x (f : (cc0_stg0_0 : Ref sig .tc).ty.Contents (Elt F)) (inb : ∀ a, (![0, 0] : Fin 2 → Nat) a + S512x256.size a ≤ S512x256.size a) :
    ((Memref.whole cc0_stg0_0).access (Rect.unit (s := S512x256) ![0, 0] S512x256.size inb)).read (Elt F) f = f := Memref.readAt_unit_zero (Elt F) cc0_stg0_0 zero2 _ f
theorem read_g (f : (cc0_scratch0 : Ref sig .tc).ty.Contents (Elt F)) (inb : ∀ a, (![0, 0] : Fin 2 → Nat) a + S384x512.size a ≤ S384x512.size a) :
    (gM.access (Rect.unit (s := S384x512) ![0, 0] S384x512.size inb)).read (Elt F) f = f := Memref.readAt_unit_zero (Elt F) cc0_scratch0 zero2 _ f
theorem write_out (f v : (cc0_stg3_0 : Ref sig .tc).ty.Contents (Elt F)) (inb : ∀ a, (![0, 0] : Fin 2 → Nat) a + S64x512.size a ≤ S64x512.size a) :
    ((Memref.whole cc0_stg3_0).access (Rect.unit (s := S64x512) ![0, 0] S64x512.size inb)).write (Elt F) f v Finset.univ = v :=
  Memref.write_access_unit_zero_univ (Elt F) cc0_stg3_0 zero2 _ f v

/-- The receive semaphore an offset picks out. -/
theorem sem_recv (o : Dev nD) (off : Fin 1 → Nat) (h : off = ![o.val]) (inb : ∀ a, off a + (![1] : Fin 1 → Nat) a ≤ S8.size a) :
    ((SemArray.slice cc0_scratch3 (Rect.unit (s := S8) off ![1] inb)).squeeze S_ squeezes_S1_S_).sem = recvSem o := by
  subst h; revert inb
  revert o; decide

/-- The send semaphore an offset picks out. -/
theorem sem_send (k : Fin 7) (off : Fin 1 → Nat) (h : off = ![k.val]) (inb : ∀ a, off a + (![1] : Fin 1 → Nat) a ≤ S7.size a) :
    ((SemArray.slice cc0_scratch2 (Rect.unit (s := S7) off ![1] inb)).squeeze S_ squeezes_S1_S_).sem = sendSem k := by
  subst h; revert inb
  revert k; decide

/-- What the kernel computes from what it loaded is the device's rows. -/
theorem chunk_eq (c : Dev nD) :
    k0_pay9 (k0_pay8 (Scalar.remsi (Scalar.divsi c.word 1#32) 8#32) (k0_pay3 (rstg m ρ c)) (k0_pay4 (rstg m ρ c)) (xstg m ρ c)
        (((Memref.whole cc0_stg1_0).access (Rect.unit (s := S4x256x512) ![0, 0, 0] S1x256x512.size inb_S4x256x512_S1x256x512_0_0_0)).read (Elt F) (wstg m ρ c))
        (((Memref.whole cc0_stg1_0).access (Rect.unit (s := S4x256x512) ![1, 0, 0] S1x256x512.size inb_S4x256x512_S1x256x512_1_0_0)).read (Elt F) (wstg m ρ c))
        (((Memref.whole cc0_stg1_0).access (Rect.unit (s := S4x256x512) ![2, 0, 0] S1x256x512.size inb_S4x256x512_S1x256x512_2_0_0)).read (Elt F) (wstg m ρ c))
        (((Memref.whole cc0_stg1_0).access (Rect.unit (s := S4x256x512) ![3, 0, 0] S1x256x512.size inb_S4x256x512_S1x256x512_3_0_0)).read (Elt F) (wstg m ρ c))) = chunk m ρ c := rfl

/-- Storing a device's rows makes its part of the gather buffer what it is to be. -/
theorem own_rows_stored (c : Dev nD) (f : (cc0_scratch0 : Ref sig .tc).ty.Contents (Elt F)) :
    (((gM.access (Rect.unit (s := S384x512) (k0_off1 c) S48x512.size (k0_off1_inb c))).loc (c : Thread nD τ)) ↦[rowsSet c]{fullShare}
        (gM.access (Rect.unit (s := S384x512) (k0_off1 c) S48x512.size (k0_off1_inb c))).write (Elt F) f (chunk m ρ c) Finset.univ)
      ⊢ (rowsAt c c fullShare (gathered m ρ) : sProp 𝕄) := by
  unfold rowsAt
  exact Entails.of_eq (pointsTo_congr (rows_stored m ρ c _ (k0_off1_eq c) _ f))

set_option maxHeartbeats 4000000 in
/-- The body, one rule for each effect in program order. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part10_eq_skeleton]; unfold k0_part10_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre Φ₀ start ghost positions payToks credits
  iintro ⟨⟨⟨⟨⟨%K, #HI, ⟨HatB, HatS, HatR⟩, HtB, HtS, HtR⟩, ⟨HcB, HcR⟩, #Hlev⟩, ⟨%g0, Hg⟩, ⟨%k0, Hk0⟩⟩,
    Ho, ⟨%dx, %fx, %hx, Hx⟩, ⟨%dw, %fw, %hw, Hw⟩, ⟨%dr, %fr, %hr, Hr⟩, ⟨%dO, %fo, %ho, Hout⟩⟩, Hk⟩
  have hx' : fx = xstg m ρ c := by rw [hx]; unfold Dat.before; rw [if_pos (fetch0_0 t0_0)]; rfl
  have hw' : fw = wstg m ρ c := by rw [hw]; unfold Dat.before; rw [if_pos (fetch0_1 t0_0)]; rfl
  have hr' : fr = rstg m ρ c := by rw [hr]; unfold Dat.before; rw [if_pos (fetch0_2 t0_0)]; rfl
  subst hx' hw' hr'
  unfold Dat.owesAt Pipeline.owesWithin
  icases Ho with ⟨%W, %hW, HO⟩
  rw [show (dats m ρ 0 c).owed t0_0.castSucc = O₀ c from rfl]
  ihave HO := (show _ ⊢ (owing c (O₀ c) : sProp 𝕄) from by unfold owing; iintro H; iexists W; iexact H) $$ HO
  ihave Hrows := (Entails.of_eq ((rows_split c fullShare g0).trans (bigSep_peers c _))) $$ Hg
  icases Hrows with ⟨Hown, Hrows⟩
  ihave Hs := (sig_start c g0) $$ [HO HtB Hrows]
  · isplitl [HO]; · iexact HO
    isplitl [HtB] <;> iassumption
  -- the seven signals
  iapply (signal_step m ρ K c 0 _ (Fin.ext (k0_dev1_eq c)) rfl) $$ [Hs]
  · isplitr; · iexact HI
    iexact Hs
  iintro Hs
  iapply (signal_step m ρ K c 1 _ (Fin.ext (k0_dev2_eq c)) rfl) $$ [Hs]
  · isplitr; · iexact HI
    iexact Hs
  iintro Hs
  iapply (signal_step m ρ K c 2 _ (Fin.ext (k0_dev3_eq c)) rfl) $$ [Hs]
  · isplitr; · iexact HI
    iexact Hs
  iintro Hs
  iapply (signal_step m ρ K c 3 _ (Fin.ext (k0_dev4_eq c)) rfl) $$ [Hs]
  · isplitr; · iexact HI
    iexact Hs
  iintro Hs
  iapply (signal_step m ρ K c 4 _ (Fin.ext (k0_dev5_eq c)) rfl) $$ [Hs]
  · isplitr; · iexact HI
    iexact Hs
  iintro Hs
  iapply (signal_step m ρ K c 5 _ (Fin.ext (k0_dev6_eq c)) rfl) $$ [Hs]
  · isplitr; · iexact HI
    iexact Hs
  iintro Hs
  iapply (signal_step m ρ K c 6 _ (Fin.ext (k0_dev7_eq c)) rfl) $$ [Hs]
  · isplitr; · iexact HI
    iexact Hs
  iintro Hs
  ihave HO := (sig_end c) $$ Hs
  -- the slots and marks
  iapply (wp_load_rect 𝒱₀ (c : Thread nD τ) none Set.univ (m := Memref.whole cc0_stg2_0)
    (r := Rect.unit (s := S512x1) ![0, 0] S512x1.size inb_S512x1_S512x1_0_0) (Finset.subset_univ _)) $$ Hr; iintro Hr
  rw [read_r]
  iapply (wp_load_rect 𝒱₀ (c : Thread nD τ) none Set.univ (m := kM)
    (r := Rect.unit (s := S512x2) ![0, 0] S512x1.size inb_S512x2_S512x1_0_0) (Finset.subset_univ _)) $$ Hk0; iintro Hk0
  iapply (wp_store 𝒱₀ (c : Thread nD τ) none Set.univ (m := kM)
    (r := Rect.unit (s := S512x2) ![0, 0] S512x1.size inb_S512x2_S512x1_0_0) (Mk := Finset.univ) (Finset.subset_univ _)) $$ Hk0; iintro Hk0
  iapply (wp_load_rect 𝒱₀ (c : Thread nD τ) none Set.univ (m := kM)
    (r := Rect.unit (s := S512x2) ![0, 1] S512x1.size inb_S512x2_S512x1_0_1) (Finset.subset_univ _)) $$ Hk0; iintro Hk0
  iapply (wp_store 𝒱₀ (c : Thread nD τ) none Set.univ (m := kM)
    (r := Rect.unit (s := S512x2) ![0, 1] S512x1.size inb_S512x2_S512x1_0_1) (Mk := Finset.univ) (Finset.subset_univ _)) $$ Hk0; iintro Hk0
  rw [cols_stored]
  -- this device's rows
  iapply (wp_load_rect 𝒱₀ (c : Thread nD τ) none Set.univ (m := Memref.whole cc0_stg0_0)
    (r := Rect.unit (s := S512x256) ![0, 0] S512x256.size inb_S512x256_S512x256_0_0) (Finset.subset_univ _)) $$ Hx; iintro Hx
  rw [read_x]
  iapply (wp_load_rect 𝒱₀ (c : Thread nD τ) none Set.univ (m := Memref.whole cc0_stg1_0)
    (r := Rect.unit (s := S4x256x512) ![0, 0, 0] S1x256x512.size inb_S4x256x512_S1x256x512_0_0_0) (Finset.subset_univ _)) $$ Hw; iintro Hw
  iapply (wp_load_rect 𝒱₀ (c : Thread nD τ) none Set.univ (m := Memref.whole cc0_stg1_0)
    (r := Rect.unit (s := S4x256x512) ![1, 0, 0] S1x256x512.size inb_S4x256x512_S1x256x512_1_0_0) (Finset.subset_univ _)) $$ Hw; iintro Hw
  iapply (wp_load_rect 𝒱₀ (c : Thread nD τ) none Set.univ (m := Memref.whole cc0_stg1_0)
    (r := Rect.unit (s := S4x256x512) ![2, 0, 0] S1x256x512.size inb_S4x256x512_S1x256x512_2_0_0) (Finset.subset_univ _)) $$ Hw; iintro Hw
  iapply (wp_load_rect 𝒱₀ (c : Thread nD τ) none Set.univ (m := Memref.whole cc0_stg1_0)
    (r := Rect.unit (s := S4x256x512) ![3, 0, 0] S1x256x512.size inb_S4x256x512_S1x256x512_3_0_0) (Finset.subset_univ _)) $$ Hw; iintro Hw
  unfold rowsAt
  iapply (wp_load_rect 𝒱₀ (c : Thread nD τ) none Set.univ (m := gM)
    (r := Rect.unit (s := S384x512) (k0_off1 c) S48x512.size (k0_off1_inb c)) (rows_view_set c _ (k0_off1_eq c) _)) $$ Hown; iintro Hown
  iapply (wp_store 𝒱₀ (c : Thread nD τ) none Set.univ (m := gM)
    (r := Rect.unit (s := S384x512) (k0_off1 c) S48x512.size (k0_off1_inb c)) (Mk := Finset.univ)
    (by rw [View.setOn_univ]; exact rows_view_set c _ (k0_off1_eq c) _)) $$ Hown; iintro Hown
  rw [chunk_eq]
  ihave Hown := (own_rows_stored m ρ c g0) $$ Hown
  -- every other device has given up its rows
  iapply (barrier_step m ρ K c rfl) $$ [HO HcB HatB]
  · isplitr; · iexact HI
    isplitr; · iexact Hlev
    isplitl [HO]; · iexact HO
    isplitl [HcB] <;> iassumption
  iintro ⟨HO, HzB, Hpay⟩
  ihave Hs := (send_start m ρ c) $$ [HO HtS HtR Hown Hpay]
  · isplitl [HO]; · iexact HO
    isplitl [HtS]; · iexact HtS
    isplitl [HtR]; · iexact HtR
    isplitl [Hown]; · iexact Hown
    iexact Hpay
  -- the seven transfers
  iapply (send_step m ρ K c 0 _ (Fin.ext (k0_dev8_eq c)) _ (k0_off3_eq c) _ _ _ _ (sem_send 0 _ rfl _) (sem_recv c _ (k0_off2_eq c) _)) $$ [Hs]
  · isplitr; · iexact HI
    iexact Hs
  iintro Hs
  iapply (send_step m ρ K c 1 _ (Fin.ext (k0_dev9_eq c)) _ (k0_off3_eq c) _ _ _ _ (sem_send 1 _ rfl _) (sem_recv c _ (k0_off2_eq c) _)) $$ [Hs]
  · isplitr; · iexact HI
    iexact Hs
  iintro Hs
  iapply (send_step m ρ K c 2 _ (Fin.ext (k0_dev10_eq c)) _ (k0_off3_eq c) _ _ _ _ (sem_send 2 _ rfl _) (sem_recv c _ (k0_off2_eq c) _)) $$ [Hs]
  · isplitr; · iexact HI
    iexact Hs
  iintro Hs
  iapply (send_step m ρ K c 3 _ (Fin.ext (k0_dev11_eq c)) _ (k0_off3_eq c) _ _ _ _ (sem_send 3 _ rfl _) (sem_recv c _ (k0_off2_eq c) _)) $$ [Hs]
  · isplitr; · iexact HI
    iexact Hs
  iintro Hs
  iapply (send_step m ρ K c 4 _ (Fin.ext (k0_dev12_eq c)) _ (k0_off3_eq c) _ _ _ _ (sem_send 4 _ rfl _) (sem_recv c _ (k0_off2_eq c) _)) $$ [Hs]
  · isplitr; · iexact HI
    iexact Hs
  iintro Hs
  iapply (send_step m ρ K c 5 _ (Fin.ext (k0_dev13_eq c)) _ (k0_off3_eq c) _ _ _ _ (sem_send 5 _ rfl _) (sem_recv c _ (k0_off2_eq c) _)) $$ [Hs]
  · isplitr; · iexact HI
    iexact Hs
  iintro Hs
  iapply (send_step m ρ K c 6 _ (Fin.ext (k0_dev14_eq c)) _ (k0_off3_eq c) _ _ _ _ (sem_send 6 _ rfl _) (sem_recv c _ (k0_off2_eq c) _)) $$ [Hs]
  · isplitr; · iexact HI
    iexact Hs
  iintro Hs
  ihave Hs := (send_end m ρ c) $$ Hs
  icases Hs with ⟨HO, HcS⟩
  -- the slots and marks of the tokens it returns rows for
  iapply (wp_load_rect 𝒱₀ (c : Thread nD τ) none Set.univ (m := kM)
    (r := Rect.unit (s := S512x2) (k0_off4 c) S64x2.size (k0_off4_inb c)) (Finset.subset_univ _)) $$ Hk0; iintro Hk0
  rw [cols_loaded c _ (k0_off4_eq c)]
  -- the seven arrivals
  ihave HatR := (Entails.of_eq (bigSep_frms c _)) $$ HatR
  icases HatR with ⟨HatOwn, HatR⟩
  imod (own_closed m ρ K c) $$ [HatOwn] with HzOwn
  · isplitr; · iexact HI
    iexact HatOwn
  ihave Hs := (recv_start m ρ c) $$ [HO HcR HatR]
  · isplitl [HO]; · iexact HO
    isplitl [HcR] <;> iassumption
  iapply (recv_step m ρ K c 0 _ _ _ _ _ _ _ (sem_recv (frm c 0) _ (k0_off5_eq c 0) _)) $$ [Hs]
  · isplitr; · iexact HI
    iexact Hs
  iintro Hs
  iapply (recv_step m ρ K c 1 _ _ _ _ _ _ _ (sem_recv (frm c 1) _ (k0_off5_eq c 1) _)) $$ [Hs]
  · isplitr; · iexact HI
    iexact Hs
  iintro Hs
  iapply (recv_step m ρ K c 2 _ _ _ _ _ _ _ (sem_recv (frm c 2) _ (k0_off5_eq c 2) _)) $$ [Hs]
  · isplitr; · iexact HI
    iexact Hs
  iintro Hs
  iapply (recv_step m ρ K c 3 _ _ _ _ _ _ _ (sem_recv (frm c 3) _ (k0_off5_eq c 3) _)) $$ [Hs]
  · isplitr; · iexact HI
    iexact Hs
  iintro Hs
  iapply (recv_step m ρ K c 4 _ _ _ _ _ _ _ (sem_recv (frm c 4) _ (k0_off5_eq c 4) _)) $$ [Hs]
  · isplitr; · iexact HI
    iexact Hs
  iintro Hs
  iapply (recv_step m ρ K c 5 _ _ _ _ _ _ _ (sem_recv (frm c 5) _ (k0_off5_eq c 5) _)) $$ [Hs]
  · isplitr; · iexact HI
    iexact Hs
  iintro Hs
  iapply (recv_step m ρ K c 6 _ _ _ _ _ _ _ (sem_recv (frm c 6) _ (k0_off5_eq c 6) _)) $$ [Hs]
  · isplitr; · iexact HI
    iexact Hs
  iintro Hs
  ihave Hs := (recv_end m ρ c) $$ Hs
  icases Hs with ⟨HO, Hrows, HzR⟩
  -- the seven transfers' ends
  ihave Hs := (sent_start m ρ c) $$ [HO HcS HatS]
  · isplitl [HO]; · iexact HO
    isplitl [HcS] <;> iassumption
  iapply (sent_step m ρ K c 0 _ _ _ _ _ _ _ (sem_send 0 _ rfl _)) $$ [Hs]
  · isplitr; · iexact HI
    iexact Hs
  iintro Hs
  iapply (sent_step m ρ K c 1 _ _ _ _ _ _ _ (sem_send 1 _ rfl _)) $$ [Hs]
  · isplitr; · iexact HI
    iexact Hs
  iintro Hs
  iapply (sent_step m ρ K c 2 _ _ _ _ _ _ _ (sem_send 2 _ rfl _)) $$ [Hs]
  · isplitr; · iexact HI
    iexact Hs
  iintro Hs
  iapply (sent_step m ρ K c 3 _ _ _ _ _ _ _ (sem_send 3 _ rfl _)) $$ [Hs]
  · isplitr; · iexact HI
    iexact Hs
  iintro Hs
  iapply (sent_step m ρ K c 4 _ _ _ _ _ _ _ (sem_send 4 _ rfl _)) $$ [Hs]
  · isplitr; · iexact HI
    iexact Hs
  iintro Hs
  iapply (sent_step m ρ K c 5 _ _ _ _ _ _ _ (sem_send 5 _ rfl _)) $$ [Hs]
  · isplitr; · iexact HI
    iexact Hs
  iintro Hs
  iapply (sent_step m ρ K c 6 _ _ _ _ _ _ _ (sem_send 6 _ rfl _)) $$ [Hs]
  · isplitr; · iexact HI
    iexact Hs
  iintro Hs
  ihave Hs := (sent_end m ρ c) $$ Hs
  icases Hs with ⟨HO, Hown, HzS⟩
  ihave Hg := (Entails.of_eq ((rows_split c fullShare (gathered m ρ)).trans (bigSep_frms c _)).symm) $$ [Hown Hrows]
  · isplitl [Hown] <;> iassumption
  ihave HzR := (Entails.of_eq (bigSep_frms c fun o => (semVal (recvCell c o) 0 : sProp 𝕄)).symm) $$ [HzOwn HzR]
  · isplitl [HzOwn] <;> iassumption
  -- the result
  iapply (wp_load_rect 𝒱₀ (c : Thread nD τ) none Set.univ (m := gM)
    (r := Rect.unit (s := S384x512) ![0, 0] S384x512.size inb_S384x512_S384x512_0_0) (Finset.subset_univ _)) $$ Hg; iintro Hg
  rw [read_g]
  iapply (wp_load_rect 𝒱₀ (c : Thread nD τ) none Set.univ (m := Memref.whole cc0_stg3_0)
    (r := Rect.unit (s := S64x512) ![0, 0] S64x512.size inb_S64x512_S64x512_0_0) (Finset.subset_univ _)) $$ Hout; iintro Hout
  iapply (wp_store 𝒱₀ (c : Thread nD τ) none Set.univ (m := Memref.whole cc0_stg3_0)
    (r := Rect.unit (s := S64x512) ![0, 0] S64x512.size inb_S64x512_S64x512_0_0) (Mk := Finset.univ) (Finset.subset_univ _)) $$ Hout; iintro Hout
  rw [write_out, wp_ret]; imodintro
  iapply Hk
  unfold bodyPost Φ₁ Dat.owesAt Pipeline.owesWithin owing
  rw [show (dats m ρ 0 c).owed t0_0.succ = 0 from rfl]
  icases HO with ⟨%W', HO⟩
  isplitl [Hg Hk0 HzB HzS HzR]
  · isplitl [Hg]; · iexists _; iexact Hg
    isplitl [Hk0]; · iexists _; iexact Hk0
    isplitl [HzB]; · iexact HzB
    isplitl [HzS] <;> iassumption
  isplitl [HO]
  · iexists W'; isplitr; · ipureintro; exact fun _ _ => Or.inl trivial
    iexact HO
  isplitl [Hx]; · iexists _; isplitr; · ipureintro; rfl
                  iexact Hx
  isplitl [Hw]; · iexists _; isplitr; · ipureintro; rfl
                  iexact Hw
  isplitl [Hr]; · iexists _; isplitr; · ipureintro; rfl
                  iexact Hr
  iexists _; isplitr; · ipureintro; rfl
  iexact Hout

end Cert.KernelIdeal.Moe

end
-- ==== Proof.KernelIdeal.Launch.lean ====
/- The launch: ghost state minted and dealt out, the kernels run on all devices, and what the memory holds at the end. -/
module

public import proofs.«01_k».proof.Proof.KernelIdeal.Body
public import Idealize.ShloMosaic.Lib.Pipeline.CollectiveSegs

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- What the library asks of the kernel's body at the one grid point. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3)
    (fun _ => bodyPost m ρ c)
  iintro H
  iapply (sound_body m ρ c fun _ => bodyPost m ρ c)
  isplitl [H]; · iexact H
  iintro H; iexact H

/-! ## Minting -/

/-- The kernel's own semaphores: the seven send and the eight receive semaphores. -/
def osem (i : Fin 15) : SemLoc sig := csem i.succ

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by unfold Function.Injective; decide

theorem kcell_injective : Function.Injective (kcell : Dev nD × Fin 16 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duty tokens of a device's own cells: for each `k`, its barrier's duty `k`, its send cell `k`'s one duty, and the one
    duty of the receive cell for the device `k + 1` places before it. -/
abbrev tokOf (x : Dev nD × Fin 7 × Fin 3) : GSem nD τ sig × ℕ × Fin 7 := match x.2.2 with
  | 0 => (barCell x.1, 0, x.2.1) | 1 => (sendCell x.1 x.2.1, 0, 0) | 2 => (recvCell x.1 (frm x.1 x.2.1), 0, 0)

theorem tokOf_injective : Function.Injective tokOf := by
  rintro ⟨c, k, j⟩ ⟨c', k', j'⟩ h
  have h1 : c = c' := by
    have := congrArg (fun x : GSem nD τ sig × ℕ × Fin 7 => x.1.1.1) h
    fin_cases j <;> fin_cases j' <;> exact this
  subst h1
  have h2 := congrArg (fun x : GSem nD τ sig × ℕ × Fin 7 => (x.1.2, x.2.2)) h
  clear h
  have h3 : k = k' ∧ j = j' := by
    revert c k j k' j'; decide
  rw [h3.1, h3.2]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The duty tokens of device `c`'s own cells. -/
def toks (c : Dev nD) : sProp 𝕄 :=
  iprop((bigSep Finset.univ fun k : Fin 7 => dutyTok ER (barCell c) 0 k)
    ∗ (bigSep Finset.univ fun k : Fin 7 => dutyTok ER (sendCell c k) 0 0)
    ∗ (bigSep Finset.univ fun k : Fin 7 => dutyTok ER (recvCell c (frm c k)) 0 0))

/-- What the launch deals device `c`. -/
def G (c : Dev nD) : sProp 𝕄 :=
  iprop((bigSep Finset.univ fun k : Fin 16 => roundState ER (sched m ρ) (kcell (c, k)) 0)
    ∗ (bigSep Finset.univ fun k : Fin 16 => iprop(atPos ER (kcell (c, k)) 0 ∅ 0 ∗ reached ER (kcell (c, k)) 0)) ∗ toks c)

/-- What is made of it once the cells' invariants stand. -/
def G' (c : Dev nD) : sProp 𝕄 := iprop(∃ K, ghost m ρ K c)

theorem bigSep_three (Φ : Fin 3 → sProp 𝕄) : bigSep Finset.univ Φ = iprop(Φ 0 ∗ Φ 1 ∗ Φ 2) :=
  bigSep_univ_eq_bigSepL [0, 1, 2] (by decide) (by decide) Φ

theorem numS_injective : Function.Injective numS := by unfold Function.Injective; decide
theorem numR_injective : Function.Injective numR := by unfold Function.Injective; decide

/-- A device's sixteen cells: its barrier's, its send cells, its receive cells. -/
theorem bigSep_cells (Φ : Fin 16 → sProp 𝕄) :
    bigSep Finset.univ Φ = iprop(Φ 0 ∗ (bigSep Finset.univ fun k : Fin 7 => Φ (numS k)) ∗ bigSep Finset.univ fun o : Dev nD => Φ (numR o)) := by
  rw [bigSep_univ_at Φ 0,
    show (Finset.univ.erase 0 : Finset (Fin 16)) = Finset.univ.map ⟨numS, numS_injective⟩ ∪ Finset.univ.map ⟨numR, numR_injective⟩ by decide,
    BI.bigSep_union (by decide), bigSep_map, bigSep_map]
  rfl

theorem bigSep_own (Φ : Fin 16 → sProp 𝕄) :
    bigSep Finset.univ Φ = iprop(Φ 0 ∗ bigSep Finset.univ fun i : Fin 15 => Φ i.succ) := by
  rw [bigSep_univ_at Φ 0, show (Finset.univ.erase 0 : Finset (Fin 16)) = Finset.univ.map ⟨Fin.succ, Fin.succ_injective 15⟩ by decide, bigSep_map]
  rfl

theorem minted : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 16 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks
      rw [bigSep_univ_prod, ← bigSep_sep', ← bigSep_sep']
      exact bigSep_congr fun k _ => by rw [bigSep_three]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem ownSems0_eq (c : Dev nD) : (Pipeline.ownSems0 (Ix := Unit) (Name := ℕ) (U := UU) (Lvl := ℕ) (Val := Elt F) (τ := τ) osem c : sProp 𝕄)
    = bigSep Finset.univ fun i : Fin 15 => semVal (kcell (c, i.succ)) 0 := rfl

/-- The barrier semaphore is the one semaphore that outlives a kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    (bigSep Finset.univ fun k : Fin 16 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_own]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 16 => semVal (kcell (c, k)) 0) ∗ bigSep Finset.univ fun k : Fin 16 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing out -/

/-- The pairs (device, step), each moved to the device the step concerns. -/
def turns : Dev nD × Fin 7 ≃ Dev nD × Fin 7 :=
  ⟨fun x => (peer x.1 x.2, x.2), fun x => (frm x.1 x.2, x.2), fun x => by simp only [frm_peer], fun x => by simp only [peer_frm]⟩

theorem turned (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (peer c k) k := by
  have h := bigSep_univ_equiv turns (fun x : Dev nD × Fin 7 => Φ x.1 x.2)
  rw [bigSep_univ_prod, bigSep_univ_prod] at h
  exact h

/-- Every token goes to the device that pays its duty. -/
theorem toks_dealt : (bigSep Finset.univ fun c : Dev nD => (toks c : sProp 𝕄)) = bigSep Finset.univ fun c : Dev nD => payToks c := by
  unfold toks payToks
  rw [bigSep_sep', bigSep_sep', bigSep_sep', bigSep_sep',
    turned fun c k => dutyTok ER (barCell c) 0 k, turned fun c k => dutyTok ER (recvCell c (frm c k)) 0 0]
  simp only [frm_peer]

theorem positions_eq (c : Dev nD) : (bigSep Finset.univ fun k : Fin 16 => (atPos ER (kcell (c, k)) 0 ∅ 0 : sProp 𝕄)) = positions c := by
  rw [bigSep_cells]
  unfold positions kcell
  simp only [csem_send, csem_recv]
  rfl

theorem ghost_intro (K : Dev nD × Fin 16 → ℕ) (c : Dev nD) : iprop(records m ρ K ∗ (positions c ∗ payToks c)) ⊢ G' m ρ c := by
  unfold G' ghost
  iintro H
  iexists K
  iexact H

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 16 => iprop(∃ κ : ℕ, cellInv ER (sched m ρ) κ (kcell ck))),
    bigSep_congr (s := Finset.univ) (fun (c : Dev nD) _ => bigSep_sep' Finset.univ (fun k : Fin 16 => (atPos ER (kcell (c, k)) 0 ∅ 0 : sProp 𝕄)) (fun k => reached ER (kcell (c, k)) 0)),
    bigSep_sep', ← bigSep_univ_prod (fun ck : Dev nD × Fin 16 => (reached ER (kcell ck) 0 : sProp 𝕄)), toks_dealt]
  iintro ⟨HI, ⟨Hat, #HR⟩, Htok⟩
  ihave HK := (BI.bigSep_exists_pi Finset.univ (fun (ck : Dev nD × Fin 16) (κ : ℕ) => (cellInv ER (sched m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 16 => (atPos ER (kcell (c, k)) 0 ∅ 0 : sProp 𝕄)) payToks).symm).trans
      (bigSep_mono fun c _ => sep_mono_left (Entails.of_eq (positions_eq (F := F) c))))
    isplitl [Hat]; · iexact Hat
    iexact Htok

/-- All devices' semaphores made into cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]; exact owed_bar_sum c

theorem launch_recv {c o : Dev nD} (hne : o ≠ c) :
    tallyOn (recvCell c o) (launchCredit (Pipeline.owing O₀) 0 (recvCell c o)) = (tallyAt (recvCell c o) () N : CellTallies nD τ sig Unit) := by
  unfold tallyAt; refine congrArg _ (Finsupp.ext fun u => ?_); cases u
  rw [Pipeline.launchCredit_owing, Finsupp.single_eq_same]; exact owed_recv_sum hne

theorem recvLoc_injective (c : Dev nD) : Function.Injective fun k : Fin 7 => (SemLoc.dma (recvSem (frm c k)) : SemLoc sig) := by
  unfold Function.Injective; revert c; decide

theorem creds (c : Dev nD) : (Pipeline.launchCred O₀ c : sProp 𝕄) ⊢ credits c := by
  unfold Pipeline.launchCred credits
  rw [bigSep_univ_at _ (SemLoc.reg barS), launch_bar]
  refine sep_mono_right ?_
  rw [← bigSep_congr (s := Finset.univ) (fun (k : Fin 7) _ => congrArg (fun t => (cred t : sProp 𝕄)) (launch_recv (frm_ne c k)))]
  have hsub : Finset.univ.map ⟨_, recvLoc_injective c⟩ ⊆ Finset.univ.erase (SemLoc.reg barS : SemLoc sig) := by
    intro x hx
    rw [Finset.mem_map] at hx
    obtain ⟨k, -, rfl⟩ := hx
    exact Finset.mem_erase.mpr ⟨(fun h => by cases h), Finset.mem_univ _⟩
  refine (bigSep_subset hsub).trans ?_
  rw [bigSep_map]
  refine bigSep_mono fun k _ => ?_
  show (cred (tallyOn (recvCell c (frm c k)) (launchCredit (Pipeline.owing O₀) 0 (recvCell c (frm c k)))) : sProp 𝕄)
    ⊢ cred (tallyOn (recvCell c (frm c k)) (launchCredit (Pipeline.owing O₀) 0 (recvCell c (frm c k))))
  exact Entails.of_eq rfl

/-! ## The run -/

/-- The routing matrix, which no operation touches. -/
def spare (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ spare m c) := by
  rw [Pipeline.unscopedRestP_none, unscopedRest0_eq]
  iintro ⟨Hsp, Hlev, Hcr, -, HG⟩
  ihave Hc := (creds (F := F) c) $$ Hcr
  imodintro
  unfold start G' spare
  isplitl [Hlev Hc HG]
  · isplitl [HG]; · iexact HG
    isplitl [Hc] <;> iassumption
  iexact Hsp

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  have h : iprop(semVal (barCell c) 0 ∗ (bigSep Finset.univ fun k : Fin 7 => semVal (sendCell c k) 0)
      ∗ (bigSep Finset.univ fun o : Dev nD => semVal (recvCell c o) 0))
      = (iprop(unscopedSems0 c ∗ Pipeline.ownSems0 (Ix := Unit) (Name := ℕ) (U := UU) (Lvl := ℕ) (Val := Elt F) (τ := τ) osem c) : sProp 𝕄) := by
    rw [← sems0_eq, bigSep_cells]
    unfold kcell
    simp only [csem_send, csem_recv]
    rfl
  rw [show (dats m ρ 0 c).Φ (Fin.last cfg0.N) = Φ₁ c from rfl, scopedRest0_eq]
  unfold Φ₁
  iintro ⟨H0, H1, Hz⟩
  ihave Hz := (Entails.of_eq h) $$ Hz
  icases Hz with ⟨HU, HO⟩
  isplitl [HU]; · iexact HU
  isplitl [HO]; · iexact HO
  isplitl [H0] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What device `c`'s array of window `w` holds at the end. -/
def finalA (c : Dev nD) (w : Fin cfg0.W) : Buf (Elt F) ((cfg0.win w).arr.view.loc (c : Thread nD τ)) := (dats m ρ 0 c).arrAt w cfg0.N

/-- Every device's arrays hold what they are to hold, the routing matrix what it held. -/
def Ends (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg1) = m ((c : Thread nD τ).loc main_arg1)

theorem spare_read (c : Dev nD) (s' : Phys nD τ sig (Elt F)) :
    iprop(unscopedSems0 c ∗ spare m c ∗ SI s')
      ⊢ |={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') := by
  have h := pointsTo_read_all (Ix := Unit) (Name := ℕ) (U := UU) (Lvl := ℕ) {()} (fun _ : Unit => (c : Thread nD τ).loc main_arg1)
    (fun _ => m ((c : Thread nD τ).loc main_arg1)) s'
  rw [bigSep_singleton] at h
  unfold spare
  iintro ⟨Hu, Hs, HSI⟩
  ihave H := (h) $$ [Hs HSI]
  · isplitl [Hs] <;> iassumption
  icases H with ⟨%h1, HSI⟩
  imod (Pipeline.unscopedSems0_read (X := unscopedSems0 c) (c := c) fupd_intro s') $$ [Hu HSI] with ⟨%h2, HSI⟩
  · isplitl [Hu] <;> iassumption
  imodintro
  isplitr; · ipureintro; exact ⟨h2, h1 () (Finset.mem_singleton_self _)⟩
  iexact HSI

set_option maxRecDepth 8000 in
/-- From any memory with every counter at zero, every fair execution of the eight devices' programs ends, with the arrays
    as they are to be and every counter at zero. -/
theorem run_main : θ_run defs (onTc (τ := τ) (main (F := F))) (s₀ m ρ) (fun r => Ends m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (minted m ρ) $$ HX with HG
      imodintro
      isplitl [HP] <;> iassumption)
    (hglob := glob m ρ)
    (hA := fun _ _ => rfl) (hpf := fun _ k => k.elim0)
    (X := start m ρ) (Y := fun c => unscopedSems0 c) (Z := fun c => spare m c)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := spare_read m)
    (hQ := fun _ h hs => ⟨fun c => ⟨(h c).1, (h c).2.2.2⟩, sem_eq_zero hs fun c => (h c).2.2.1⟩)

/-- The tokens' array is left as it was, -/
theorem finalA_x (c : Dev nD) : finalA m ρ c (0 : Fin 4) = m ((c : Thread nD τ).loc main_arg0) := (dats (F := F) m ρ 0 c).arrAt_in (0 : Fin 4) rfl _
/-- the weights', -/
theorem finalA_w (c : Dev nD) : finalA m ρ c (1 : Fin 4) = m ((c : Thread nD τ).loc main_arg3) := (dats (F := F) m ρ 0 c).arrAt_in (1 : Fin 4) rfl _
/-- and the routing indices'. -/
theorem finalA_r (c : Dev nD) : finalA m ρ c (2 : Fin 4) = m ((c : Thread nD τ).loc main_arg2) := (dats (F := F) m ρ 0 c).arrAt_in (2 : Fin 4) rfl _

end Cert.KernelIdeal.Moe

end
-- ==== Proof.Frames.lean ====
/- The programs run, leave their arguments as they were, and end with every semaphore at zero. -/
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel at the machine's floats: it runs, its arguments stay, its counters end at zero. -/
theorem frame_p : Cert.quiescent_Kernel (hKernel := Cert.Kernel.Gen.facts) := by
  intro m ρ _
  exact (θ_run _ _ _).mono (fun _ h => ⟨fun c => ⟨((h.1 c).1 (0 : Fin 4)).trans (Cert.Kernel.Moe.finalA_x m ρ c), (h.1 c).2,
    ((h.1 c).1 (2 : Fin 4)).trans (Cert.Kernel.Moe.finalA_r m ρ c), ((h.1 c).1 (1 : Fin 4)).trans (Cert.Kernel.Moe.finalA_w m ρ c)⟩, h.2⟩)
    (Cert.Kernel.Moe.run_main (F := Bits) m ρ)

/-- The same of the idealized kernel. -/
theorem frame_pi : Cert.quiescent_KernelIdeal (hKernelIdeal := Cert.KernelIdeal.Gen.facts) := by
  intro m ρ _
  exact (θ_run _ _ _).mono (fun _ h => ⟨fun c => ⟨((h.1 c).1 (0 : Fin 4)).trans (Cert.KernelIdeal.Moe.finalA_x m ρ c), (h.1 c).2,
    ((h.1 c).1 (2 : Fin 4)).trans (Cert.KernelIdeal.Moe.finalA_r m ρ c), ((h.1 c).1 (1 : Fin 4)).trans (Cert.KernelIdeal.Moe.finalA_w m ρ c)⟩, h.2⟩)
    (Cert.KernelIdeal.Moe.run_main (F := Ideal) m ρ)

/-- The reference runs, its arguments stay, and it has no semaphore. -/
theorem frame_ri : Cert.quiescent_ReferenceIdeal (hReferenceIdeal := Cert.ReferenceIdeal.Gen.facts) := by
  intro m ρ _
  exact (θ_run _ _ _).mono (fun r h => ⟨fun c => (h c).2, sem_eq_zero_of_no_sems (by decide) r.2⟩)
    (Cert.ReferenceIdeal.Value.run (F := Ideal) m ρ)

end Cert.Proof

end
-- ==== Proof.Value.Tokens.lean ====
/- The routing in plain mathematics: how many earlier tokens go to a token's expert, the slot this gives it, and
   the result both programs compute. -/
module

public import Idealize.ShloMosaic.PureOps.Ideal.Laws
public import Idealize.ShloMosaic.Lib.Pointwise
public import Idealize.ShloMosaic.Lib.WordCmp

@[expose] public section

set_option backward.proofsInPublic true
set_option maxRecDepth 16384

noncomputable section

namespace Cert.Tokens

open Idealize.ShloMosaic
open scoped BigOperators

variable (e : Fin 512 → BitVec 32)

/-- The tokens before token `i` that go to the same expert. -/
def before (i : Fin 512) : Finset (Fin 512) := Finset.univ.filter fun j => e j = e i ∧ j < i

/-- How many tokens before token `i` go to the same expert. -/
def earlier (i : Fin 512) : ℕ := (before e i).card

/-- The slot of token `i` among all experts' slots, twelve to an expert. -/
def slot (i : Fin 512) : ℕ := 12 * (e i).toNat + earlier e i

/-- A token is kept when fewer than twelve earlier tokens go to its expert. -/
abbrev Kept (i : Fin 512) : Prop := earlier e i < 12

theorem earlier_lt (i : Fin 512) : earlier e i < 512 := by
  have h : before e i ⊂ Finset.univ := Finset.ssubset_univ_iff.2 fun h => by
    have : i ∈ before e i := h ▸ Finset.mem_univ i
    simp [before] at this
  simpa [earlier] using Finset.card_lt_card h

/-- Of two tokens of one expert the later one has more before it. -/
theorem earlier_strict {i j : Fin 512} (h : e i = e j) (hij : i < j) : earlier e i < earlier e j := by
  refine Finset.card_lt_card (Finset.ssubset_iff_of_subset (fun k hk => ?_) |>.2 ⟨i, ?_, ?_⟩)
  · simp only [before, Finset.mem_filter, Finset.mem_univ, true_and] at hk ⊢
    exact ⟨hk.1.trans h, hk.2.trans hij⟩
  · simp [before, h, hij]
  · simp [before]

/-- Kept tokens have slots of their own. -/
theorem slot_inj {i j : Fin 512} (hi : Kept e i) (hj : Kept e j) (h : slot e i = slot e j) : i = j := by
  unfold slot Kept at *
  have he : e i = e j := BitVec.eq_of_toNat_eq (by omega)
  have hn : earlier e i = earlier e j := by omega
  rcases lt_trichotomy i j with hlt | heq | hgt
  · exact absurd hn (earlier_strict e he hlt).ne
  · exact heq
  · exact absurd hn (earlier_strict e he.symm hgt).ne'

/-- Counting token `i` itself gives one more. -/
theorem card_upto (i : Fin 512) : (Finset.univ.filter fun j => j ≤ i ∧ e j = e i).card = earlier e i + 1 := by
  have h : (Finset.univ.filter fun j => j ≤ i ∧ e j = e i) = insert i (before e i) := by
    ext k
    simp only [before, Finset.mem_filter, Finset.mem_univ, true_and, Finset.mem_insert]
    constructor
    · rintro ⟨h1, h2⟩
      rcases h1.lt_or_eq with h | h
      exacts [.inr ⟨h2, h⟩, .inl h]
    · rintro (h | ⟨h1, h2⟩)
      exacts [h ▸ ⟨le_refl _, rfl⟩, ⟨h2.le, h1⟩]
  rw [h, Finset.card_insert_of_notMem (by simp [before]), earlier]

/-- The number of a token's expert, among the thirty-two. -/
def expert (i : Fin 512) : Fin 32 := ⟨(e i).toNat % 32, Nat.mod_lt _ (by decide)⟩

/-- The result: a kept token's row times its expert's matrix, and zero for a token beyond the expert's twelve. -/
def moe (x : (⟨2, ![512, 256]⟩ : Shape).Idx → EReal) (w : (⟨3, ![32, 256, 512]⟩ : Shape).Idx → EReal) (i : Fin 512) (h : Fin 512) : EReal :=
  if Kept e i then ∑ d : Fin 256, x (ix2 i d) * w (ix3 (expert e i) d h) else 0

/-! ## The conversions on small numbers -/

/-- A widened bit converted to a float is one or zero. -/
theorem sitofp_bit (b : BitVec 1) : (FloatOps.sitofp FTy.f32 (b.setWidth 32) : Ideal .f32) = if b = 1#1 then (1 : EReal) else 0 := by
  show (((b.setWidth 32).toInt : ℝ) : EReal) = _
  by_cases h : b = 1#1
  · subst h; simp
  · rw [if_neg h, ValueIdx.eq_zero_of_ne_one h]; simp

/-- A small natural number converted to an integer keeps its value. -/
theorem fptosi_nat (n : ℕ) (h : n < 2 ^ 31) : Ideal.fptosi 32 ((n : ℝ) : EReal) = BitVec.ofNat 32 n := by
  rw [Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num; omega
  rw [this, BitVec.ofInt_natCast]

/-- A small word converted to a float keeps its value. -/
theorem sitofp_nat (n : ℕ) (h : n < 2 ^ 31) : (FloatOps.sitofp FTy.f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-- The float pattern of twelve. -/
theorem ofBits_twelve : Ideal.ofBits .f32 0x41400000#32 = ((12 : ℝ) : EReal) := by
  simp [Ideal.ofBits, Ideal.ieee, -EReal.coe_mul]; norm_num

/-- The float pattern of one half. -/
theorem ofBits_half : Ideal.ofBits .f32 0x3F000000#32 = ((1 / 2 : ℝ) : EReal) := by
  simp [Ideal.ofBits, Ideal.ieee, -EReal.coe_mul]; norm_num

/-- A word is the numeral of its value. -/
theorem eq_ofNat_iff (a : BitVec 32) (n : ℕ) (h : n < 2 ^ 32) : a = BitVec.ofNat 32 n ↔ a.toNat = n := by
  rw [BitVec.toNat_eq, BitVec.toNat_ofNat, Nat.mod_eq_of_lt h]

/-- The kernel's count, a sum over the experts of products of indicators, is the number of tokens up to token `i`
    of its expert. -/
theorem sum_indicators (hr : ∀ i, (e i).toNat < 32) (i : Fin 512) :
    ∑ x : Fin 32, (∑ j : Fin 512, (if j ≤ i then (1 : EReal) else 0) * (if (e j).toNat = x.val then 1 else 0))
      * (if (e i).toNat = x.val then 1 else 0) = ((earlier e i + 1 : ℕ) : EReal) := by
  rw [Finset.sum_eq_single (⟨(e i).toNat, hr i⟩ : Fin 32)]
  · rw [if_pos rfl, mul_one, ← card_upto e i, Finset.card_filter]
    push_cast
    refine Finset.sum_congr rfl fun j _ => ?_
    have hj : (e j).toNat = (e i).toNat ↔ e j = e i := BitVec.toNat_eq.symm
    by_cases h1 : j ≤ i <;> by_cases h2 : e j = e i <;> simp [h1, h2, hj]
  · intro x _ hx
    rw [if_neg (fun h => hx (Fin.ext h.symm)), mul_zero]
  · simp

end Cert.Tokens
-- ==== Proof.Value.Slots.lean ====
/- What the kernel computes from the expert numbers: each token's rank, whether it is kept, and its slot. -/
module

public import proofs.«01_k».proof.Proof.Gen.KernelIdeal
public import proofs.«01_k».proof.Proof.Gen.KernelIdeal.Skeleton
public import proofs.«01_k».proof.Proof.Value.Tokens

@[expose] public section

set_option maxRecDepth 16384

noncomputable section

namespace Cert.Slots

open Idealize.ShloMosaic Idealize.ShloMosaic.TcCoe Idealize.ShloMosaic.WordCmp
open Cert.KernelIdeal Cert.KernelIdeal.Gen Cert.Tokens
open scoped BigOperators

/-- The experts' numbers as a function of the token. -/
def experts (r : Vec Ideal S512x1 .i32) (i : Fin 512) : BitVec 32 := r (ix2 i 0)

variable (r : Vec Ideal S512x1 .i32) (hr : ∀ i, (experts r i).toNat < 32) (i : Fin 512)
include hr

/-- The rank is the number of earlier tokens of the same expert. -/
theorem rank_eq : k0_pay2 (F := Ideal) r (ix2 i 0 : S512x1.Idx) = ((earlier (experts r) i : ℝ) : EReal) := by
  pointwise [k0_pay2, k0_pay1]
  simp only [sitofp_bit, cmpi_eq_eq, ofBool_decide_eq_one_iff]
  have hx (j : Fin 512) (x : Fin 32) : (r (ix2 j 0) = BitVec.ofNat 32 x.val) = ((experts r j).toNat = x.val) :=
    propext (eq_ofNat_iff _ _ (by omega))
  have hle (j : Fin 512) : (IntOp.cmpi .sle (BitVec.ofNat 32 j.val) (BitVec.ofNat 32 i.val) = 1#1) = (j ≤ i) :=
    propext ((cmpi_sle_ofNat_eq_one_iff (by omega) (by omega)).trans Fin.le_def.symm)
  simp only [hx, hle]
  rw [sum_indicators _ hr i]
  rw [← EReal.coe_natCast, ← EReal.coe_one, ← EReal.coe_sub]
  congr 1
  push_cast
  ring

/-- The kernel's keep bit says whether the token is kept. -/
theorem keep_eq : k0_pay3 (F := Ideal) r (ix2 i 0 : S512x1.Idx) = BitVec.ofBool (decide (Kept (experts r) i)) := by
  pointwise [k0_pay3]
  rw [rank_eq r hr, ofBits_twelve]
  congr 2
  exact propext (EReal.coe_lt_coe_iff.trans (by norm_cast))

/-- The kernel's slot word is the token's slot. -/
theorem slot_eq : k0_pay4 (F := Ideal) r (ix2 i 0 : S512x1.Idx) = BitVec.ofNat 32 (slot (experts r) i) := by
  pointwise [k0_pay4, k0_pay1]
  rw [rank_eq r hr]
  have h := earlier_lt (experts r) i
  show IntOp.addi _ (Ideal.fptosi 32 _) = _
  rw [fptosi_nat _ (by omega)]
  have he : r (ix2 i 0) = BitVec.ofNat 32 (experts r i).toNat := by rw [BitVec.ofNat_toNat]; simp [experts]
  rw [he, muli_ofNat, addi_ofNat, slot, mul_comm]

omit hr in
/-- A token's slot is a small number. -/
theorem slot_small (hr : ∀ i, (experts r i).toNat < 32) : slot (experts r) i < 896 := by
  have h := earlier_lt (experts r) i
  have h' := hr i
  unfold slot; omega

/-- The slot as the float the kernel stores. -/
theorem slotf_eq : k0_pay5 (F := Ideal) r (ix2 i 0 : S512x1.Idx) = ((slot (experts r) i : ℝ) : EReal) := by
  have h := slot_small r i hr
  pointwise [k0_pay5]
  rw [slot_eq r hr]
  exact sitofp_nat _ (by omega)

/-- Whether a token is kept, as the float the kernel stores. -/
theorem keepf_eq : k0_pay7 (F := Ideal) (k0_pay6 r) (ix2 i 0 : S512x1.Idx) = if Kept (experts r) i then (1 : EReal) else 0 := by
  pointwise [k0_pay7, k0_pay6]
  rw [keep_eq r hr]
  by_cases h : Kept (experts r) i <;> simp [h, Scalar.select]

/-- The bit of the selection matrix: token `i` is kept and its slot is slot `t` of device `o`. -/
theorem pick_bit (o t : ℕ) (ho : o < 8) (ht : t < 48) (a b : EReal) :
    Scalar.select (IntOp.andi (k0_pay3 (F := Ideal) r (ix2 i 0 : S512x1.Idx))
      (IntOp.cmpi .eq (IntOp.subi (k0_pay4 (F := Ideal) r (ix2 i 0 : S512x1.Idx)) (Scalar.muli (BitVec.ofNat 32 o) 48#32)) (BitVec.ofNat 32 t))) a b
      = if Kept (experts r) i ∧ slot (experts r) i = 48 * o + t then a else b := by
  have hs := slot_small r i hr
  rw [keep_eq r hr, slot_eq r hr, cmpi_eq_eq]
  have e1 : (IntOp.subi (BitVec.ofNat 32 (slot (experts r) i)) (Scalar.muli (BitVec.ofNat 32 o) 48#32) = BitVec.ofNat 32 t)
      ↔ slot (experts r) i = 48 * o + t := by
    show BitVec.ofNat 32 (slot (experts r) i) - BitVec.ofNat 32 o * 48#32 = BitVec.ofNat 32 t ↔ _
    rw [BitVec.toNat_eq]
    simp only [BitVec.toNat_sub, BitVec.toNat_mul, BitVec.toNat_ofNat]
    omega
  simp only [e1]
  by_cases h1 : Kept (experts r) i <;> by_cases h2 : slot (experts r) i = 48 * o + t <;>
    simp [h1, h2, Scalar.select, IntOp.andi]

end Cert.Slots
-- ==== Proof.Value.Rows.lean ====
/- The rows a device computes and the rows it returns, read at an index. -/
module

public import proofs.«01_k».proof.Proof.Value.Slots

@[expose] public section

set_option backward.proofsInPublic true
set_option maxRecDepth 16384

noncomputable section

namespace Cert.Slots

open Idealize.ShloMosaic Idealize.ShloMosaic.TcCoe Idealize.ShloMosaic.WordCmp
open Cert.KernelIdeal Cert.KernelIdeal.Gen Cert.Tokens
open scoped BigOperators

/-- The row picked into slot `n`: the sum over the tokens kept in that slot, of which there is one at most. -/
def picked (e : Fin 512 → BitVec 32) (x : Vec Ideal S512x256 .f32) (n : ℕ) (d : Fin 256) : EReal :=
  ∑ i : Fin 512, if Kept e i ∧ slot e i = n then (x (ix2 i d) : EReal) else 0

/-- A kept token's slot holds the token's row. -/
theorem picked_slot (e : Fin 512 → BitVec 32) (x : Vec Ideal S512x256 .f32) (i : Fin 512) (hi : Kept e i) (d : Fin 256) :
    picked e x (slot e i) d = x (ix2 i d) := by
  unfold picked
  rw [Finset.sum_eq_single i]
  · rw [if_pos ⟨hi, rfl⟩]
  · intro j _ hj
    rw [if_neg (fun h => hj (slot_inj e h.1 hi h.2))]
  · simp

variable (r : Vec Ideal S512x1 .i32) (hr : ∀ i, (experts r i).toNat < 32)
include hr

/-- Slot `s` of device `o`'s rows: the picked row times the matrix of the expert the slot belongs to. -/
theorem chunk_eq (o : ℕ) (ho : o < 8) (x : Vec Ideal S512x256 .f32) (w0 w1 w2 w3 : Vec Ideal S1x256x512 .f32)
    (v : ℕ → Fin 256 → Fin 512 → EReal) (h0 : ∀ d h, w0 (ix3 0 d h) = v 0 d h) (h1 : ∀ d h, w1 (ix3 0 d h) = v 1 d h)
    (h2 : ∀ d h, w2 (ix3 0 d h) = v 2 d h) (h3 : ∀ d h, w3 (ix3 0 d h) = v 3 d h) (s : Fin 48) (h : Fin 512) :
    k0_pay9 (k0_pay8 (F := Ideal) (BitVec.ofNat 32 o) (k0_pay3 r) (k0_pay4 r) x w0 w1 w2 w3) (ix2 s h : S48x512.Idx)
      = ∑ d : Fin 256, picked (experts r) x (48 * o + s.val) d * v (s.val / 12) d h := by
  have key (t : ℕ) (ht : t < 48) (d : Fin 256) :
      ∑ i : Fin 512, Scalar.select (IntOp.andi (k0_pay3 (F := Ideal) r (ix2 i 0 : S512x1.Idx))
        (IntOp.cmpi .eq (IntOp.subi (k0_pay4 (F := Ideal) r (ix2 i 0 : S512x1.Idx)) (Scalar.muli (BitVec.ofNat 32 o) 48#32)) (BitVec.ofNat 32 t)))
        (x (ix2 i d) : EReal) 0 = picked (experts r) x (48 * o + t) d :=
    Finset.sum_congr rfl fun i _ => pick_bit r hr i o t ho ht _ _
  have hs := s.isLt
  pointwise [k0_pay9, k0_pay8]
  by_cases c0 : s.val < 12
  · rw [dif_pos c0, show s.val / 12 = 0 by omega]
    exact Finset.sum_congr rfl fun d _ => congrArg₂ (· * ·) (key _ hs d) (h0 d h)
  rw [dif_neg c0]
  by_cases c1 : s.val - 12 < 12
  · rw [dif_pos c1, show s.val / 12 = 1 by omega, show 12 + (s.val - 12) = s.val by omega]
    exact Finset.sum_congr rfl fun d _ => congrArg₂ (· * ·) (key _ hs d) (h1 d h)
  rw [dif_neg c1]
  by_cases c2 : s.val - 12 - 12 < 12
  · rw [dif_pos c2, show s.val / 12 = 2 by omega, show 24 + (s.val - 12 - 12) = s.val by omega]
    exact Finset.sum_congr rfl fun d _ => congrArg₂ (· * ·) (key _ hs d) (h2 d h)
  · rw [dif_neg c2, show s.val / 12 = 3 by omega, show 36 + (s.val - 12 - 12 - 12) = s.val by omega]
    exact Finset.sum_congr rfl fun d _ => congrArg₂ (· * ·) (key _ hs d) (h3 d h)

omit hr in
/-- The scatter read at a token: row `n` of the gathered rows for a kept token of slot `n`, zero for one dropped. -/
theorem scatter_eq (v : Vec Ideal S64x2 .f32) (g : Vec Ideal S384x512 .bf16) (j : Fin 64) (h : Fin 512) (n : ℕ) (hn : n < 2 ^ 31)
    (k : Prop) [Decidable k] (hk : k → n < 384) (hv0 : v (ix2 j 0 : S64x2.Idx) = ((n : ℝ) : EReal))
    (hv1 : v (ix2 j 1 : S64x2.Idx) = if k then (1 : EReal) else 0) :
    k0_pay13 (F := Ideal) (k0_pay12 (k0_pay10 v) (k0_pay11 v)) g (ix2 j h : S64x512.Idx)
      = if hkn : k then (g (ix2 ⟨n, hk hkn⟩ h : S384x512.Idx) : EReal) else 0 := by
  pointwise [k0_pay13, k0_pay12, k0_pay11, k0_pay10]
  rw [hv0, hv1, ofBits_half]
  have hf : FloatOps.fptosi (F := Ideal) (φ := .f32) 32 ((n : ℝ) : EReal) = BitVec.ofNat 32 n := fptosi_nat n hn
  rw [hf]
  by_cases hkn : k
  · have hlt : ((1 / 2 : ℝ) : EReal) < 1 := by rw [← EReal.coe_one, EReal.coe_lt_coe_iff]; norm_num
    simp only [if_pos hkn, hlt, decide_true]
    rw [dif_pos hkn, Finset.sum_eq_single (⟨n, hk hkn⟩ : Fin 384)]
    · simp [IntOp.andi, cmpi_eq_eq, Scalar.select]
    · intro x _ hx
      have hne : ¬ BitVec.ofNat 32 n = BitVec.ofNat 32 x.val := fun e => hx (Fin.ext (by
        have := congrArg BitVec.toNat e
        simp only [BitVec.toNat_ofNat] at this
        have := x.isLt
        show x.val = n
        omega))
      simp [IntOp.andi, cmpi_eq_eq, Scalar.select, hne]
    · simp
  · have hlt : ¬ ((1 / 2 : ℝ) : EReal) < 0 := by rw [← EReal.coe_zero, EReal.coe_lt_coe_iff]; norm_num
    simp only [if_neg hkn, hlt, decide_false]
    rw [dif_neg hkn]
    exact Finset.sum_eq_zero fun x _ => by simp [IntOp.andi, Scalar.select]

end Cert.Slots
-- ==== Proof.Value.Device.lean ====
/- What device `c` returns, read at an index: rows `64 c` to `64 c + 63` of the result. -/
module

public import proofs.«01_k».proof.Proof.KernelIdeal.Launch
public import proofs.«01_k».proof.Proof.Value.Rows
public import Idealize.ShloMosaic.Lib.Layout

@[expose] public section

set_option backward.proofsInPublic true
set_option maxRecDepth 16384

noncomputable section

namespace Cert.Device

open Idealize.ShloMosaic Idealize.ShloMosaic.TcCoe
open Idealize.ShloMosaic.ValueKit (view_emb_slice_whole_unit_val)
open Cert.KernelIdeal Cert.KernelIdeal.Gen Cert.KernelIdeal.Moe Cert.Tokens Cert.Slots
open scoped BigOperators

section AnyFloat
variable {F : FTy → Type} [FloatOps F] (m : (ℓ : Loc nD τ sig) → Buf (Elt F) ℓ) (ρ : Dev nD → PrngReg) (c : Dev nD)

/-- The staged tokens are the whole array, -/
theorem xstg_eq : xstg m ρ c = m ((c : Thread nD τ).loc main_arg0) :=
  Memref.read_access_unit_zero (Elt F) main_arg0 (funext fun a => by fin_cases a <;> decide) (fun a => by fin_cases a <;> decide) _
/-- the staged weights too, -/
theorem wstg_eq : wstg m ρ c = m ((c : Thread nD τ).loc main_arg3) :=
  Memref.read_access_unit_zero (Elt F) main_arg3 (funext fun a => by fin_cases a <;> decide) (fun a => by fin_cases a <;> decide) _
/-- and the staged expert numbers. -/
theorem rstg_eq : rstg m ρ c = m ((c : Thread nD τ).loc main_arg2) :=
  Memref.read_access_unit_zero (Elt F) main_arg2 (funext fun a => by fin_cases a <;> decide) (fun a => by fin_cases a <;> decide) _

/-- The one block of the result array that the grid's one point writes back is the whole array. -/
theorem out_block (f : Buf (Elt F) ((c : Thread nD τ).loc main_v1)) : (win0_3.blk (0 : Fin 1)).view.read (Elt F) f = f :=
  Memref.read_access_unit_zero (Elt F) main_v1 (funext fun a => by fin_cases a <;> decide) (fun a => by fin_cases a <;> decide) f

/-- The result array ends holding what the body computed. -/
theorem finalA_out : finalA m ρ c (3 : Fin 4) = outAt m ρ c :=
  have hflush : (cfg0.win (3 : Fin 4)).flush (0 : Fin 1) = true := by decide
  have hstep := ((dats m ρ 0 c).arrAt_succ (3 : Fin 4) (0 : Fin 1)).trans (if_pos hflush)
  (out_block c _).symm.trans ((congrArg ((win0_3.blk (0 : Fin 1)).view.read (Elt F)) hstep).trans (View.read_write_univ _ _))

/-- A device's number as it computes it. -/
theorem meWord_eq : meWord c = BitVec.ofNat 32 c.val := by revert c; decide

/-- One expert's matrix as loaded. -/
theorem wRead_eq (f : (cc0_stg1_0 : Ref sig .tc).ty.Contents (Elt F)) (q : Fin 4) (off : Fin 3 → Nat) (hoff : off = ![q.val, 0, 0])
    (inb : ∀ a, off a + S1x256x512.size a ≤ S4x256x512.size a) (d : Fin 256) (h : Fin 512) :
    wRead f off inb (ix3 0 d h : S1x256x512.Idx) = f (ix3 q d h : S4x256x512.Idx) := by
  subst hoff
  refine congrArg f (funext fun a => Fin.ext ?_)
  refine (view_emb_slice_whole_unit_val cc0_stg1_0 _ _ inb _ a).trans ?_
  match a with
  | ⟨0, _⟩ => rfl
  | ⟨1, _⟩ => exact Nat.zero_add _
  | ⟨2, _⟩ => exact Nat.zero_add _

end AnyFloat

variable (m : (ℓ : Loc nD τ sig) → Buf (Elt Ideal) ℓ) (ρ : Dev nD → PrngReg)
variable (x : FVec Ideal S512x256 .f32) (r : Vec Ideal S512x1 .i32) (w : (⟨3, ![32, 256, 512]⟩ : Shape).Idx → EReal)
variable (hx : ∀ c : Dev nD, m ((c : Thread nD τ).loc main_arg0) = x) (hrt : ∀ c : Dev nD, m ((c : Thread nD τ).loc main_arg2) = r)
  (hw : ∀ c : Dev nD, m ((c : Thread nD τ).loc main_arg3) = Layout.block ⟨3, ![4, 256, 512]⟩ ⟨3, ![32, 256, 512]⟩ 0 8 c w)
  (hr : ∀ i, (experts r i).toNat < 32)

/-- Matrix `q` of device `c`'s four is matrix `4 c + q` of all. -/
theorem block_weights (c : Fin 8) (q : Fin 4) (d : Fin 256) (h : Fin 512) (e : Fin 32) (he : e.val = 4 * c.val + q.val) :
    (Layout.block ⟨3, ![4, 256, 512]⟩ ⟨3, ![32, 256, 512]⟩ 0 8 c w) (ix3 q d h) = w (ix3 e d h) := by
  rw [Layout.block_apply]
  refine congrArg w (funext fun a => Fin.ext ?_)
  rw [Layout.Tiles.idx_val]
  match a with
  | ⟨0, _⟩ => show c.val * 4 + q.val = e.val; omega
  | ⟨1, _⟩ => rfl
  | ⟨2, _⟩ => rfl

/-- The expert with a number below thirty-two. -/
def nth (n : ℕ) : Fin 32 := ⟨n % 32, Nat.mod_lt _ (by decide)⟩

include hx hrt hw hr

/-- Row `s` of the rows device `o` computes. -/
theorem chunk_at (o : Dev nD) (s : Fin 48) (h : Fin 512) :
    (chunk m ρ o (ix2 s h : S48x512.Idx) : EReal)
      = ∑ d : Fin 256, picked (experts r) x (48 * o.val + s.val) d * w (ix3 (nth (4 * o.val + s.val / 12)) d h) := by
  have ho : o.val < 8 := o.isLt
  have hread (q : Fin 4) (off : Fin 3 → Nat) (hoff : off = ![q.val, 0, 0]) (inb : ∀ a, off a + S1x256x512.size a ≤ S4x256x512.size a)
      (d : Fin 256) (h : Fin 512) : wRead (wstg m ρ o) off inb (ix3 0 d h : S1x256x512.Idx) = w (ix3 (nth (4 * o.val + q.val)) d h) := by
    rw [wRead_eq _ q off hoff inb, wstg_eq, hw o]
    exact block_weights w o q d h _ (Nat.mod_eq_of_lt (by have := q.isLt; omega))
  unfold chunk chunkOf
  rw [meWord_eq, xstg_eq, hx, rstg_eq, hrt]
  exact chunk_eq r hr o.val ho x _ _ _ _ (fun q d h => w (ix3 (nth (4 * o.val + q)) d h))
    (hread 0 _ rfl _) (hread 1 _ rfl _) (hread 2 _ rfl _) (hread 3 _ rfl _) s h

/-- The row of a kept token, as every device holds it after the exchange. -/
theorem gathered_at (i : Fin 512) (hi : Kept (experts r) i) (hs : slot (experts r) i < 384) (h : Fin 512) :
    (gathered m ρ (ix2 (⟨slot (experts r) i, hs⟩ : Fin 384) h : S384x512.Idx) : EReal)
      = ∑ d : Fin 256, x (ix2 i d) * w (ix3 (expert (experts r) i) d h) := by
  refine (chunk_at m ρ x r w hx hrt hw hr (ownerOf (ix2 (⟨slot (experts r) i, hs⟩ : Fin 384) h))
    ⟨slot (experts r) i % 48, Nat.mod_lt _ (by decide)⟩ h).trans (Finset.sum_congr rfl fun d _ => ?_)
  show picked (experts r) x (48 * (slot (experts r) i / 48) + slot (experts r) i % 48) d
    * w (ix3 (nth (4 * (slot (experts r) i / 48) + slot (experts r) i % 48 / 12)) d h) = _
  have he : nth (4 * (slot (experts r) i / 48) + slot (experts r) i % 48 / 12) = expert (experts r) i := by
    have h1 := hr i
    refine Fin.ext ?_
    show (4 * (slot (experts r) i / 48) + slot (experts r) i % 48 / 12) % 32 = (experts r i).toNat % 32
    unfold slot Kept at *
    omega
  rw [he, Nat.div_add_mod, picked_slot _ _ _ hi]

/-- Device `c`'s row `j` is row `64 c + j` of the result. -/
theorem out_at (c : Dev nD) (j : Fin 64) (h : Fin 512) (i : Fin 512) (hi : i.val = 64 * c.val + j.val) :
    (outAt m ρ c (ix2 j h : S64x512.Idx) : EReal) = moe (experts r) x w i h := by
  have hk : Kept (experts r) i → slot (experts r) i < 384 := fun hk => by
    have h1 := hr i
    unfold slot Kept at *
    omega
  have hij : (⟨64 * c.val + j.val, hi ▸ i.isLt⟩ : Fin 512) = i := Fin.ext hi.symm
  unfold outAt
  rw [rstg_eq, hrt]
  refine (scatter_eq _ _ j h (slot (experts r) i) (by have := slot_small r i hr; omega) (Kept (experts r) i) hk ?_ ?_).trans ?_
  · refine Eq.trans ?_ (slotf_eq r hr i)
    show k0_pay5 (F := Ideal) r (ix2 (⟨64 * c.val + j.val, _⟩ : Fin 512) 0) = _
    rw [hij]
  · refine Eq.trans ?_ (keepf_eq r hr i)
    show k0_pay7 (F := Ideal) (k0_pay6 r) (ix2 (⟨64 * c.val + j.val, _⟩ : Fin 512) 0) = _
    rw [hij]
  · unfold moe
    by_cases hkn : Kept (experts r) i
    · rw [dif_pos hkn, if_pos hkn]
      exact gathered_at m ρ x r w hx hrt hw hr i hkn (hk hkn) h
    · rw [dif_neg hkn, if_neg hkn]

end Cert.Device
-- ==== Proof.Value.Reference.lean ====
/- The reference's result, read at an index. -/
module

public import proofs.«01_k».proof.Proof.Gen.ReferenceIdeal
public import proofs.«01_k».proof.Proof.Gen.ReferenceIdeal.Run
public import Idealize.ShloMosaic.Lib.IndicatorCount
public import proofs.«01_k».proof.Proof.Value.Tokens

@[expose] public section

set_option backward.proofsInPublic true
set_option maxRecDepth 16384

noncomputable section

namespace Cert.Plain

open Idealize.ShloMosaic Idealize.ShloMosaic.TcCoe Idealize.ShloMosaic.WordCmp
open Cert.ReferenceIdeal Cert.ReferenceIdeal.Gen Cert.Tokens
open scoped BigOperators

/-- Each token's number of earlier tokens of its expert, as the reference counts them. -/
def counts (r : IVec S512x1 32) : IVec S512 32 :=
  Host.reduce IntOp.addi (extui 32 (andi (cmpi .eq (broadcastInDim S512x512 ![0, 1] bcast_S512x1_S512x512_0_1 (broadcastInDim S512x1 ![0] bcast_S512_S512x1_0 (shapeCast S512 r shapeCasts_S512x1_S512))) (broadcastInDim S512x512 ![0, 1] bcast_S1x512_S512x512_0_1 (broadcastInDim S1x512 ![1] bcast_S512_S1x512_1 (shapeCast S512 r shapeCasts_S512x1_S512)))) (cmpi .slt (broadcastInDim S512x512 ![0, 1] bcast_S1x512_S512x512_0_1 (broadcastInDim S1x512 ![1] bcast_S512_S1x512_1 (iotaInDim S512 32 0))) (broadcastInDim S512x512 ![0, 1] bcast_S512x1_S512x512_0_1 (broadcastInDim S512x1 ![0] bcast_S512_S512x1_0 (iotaInDim S512 32 0))))) natLt_1_32) (constantI S_ 32 0#32) reducesTo_S512x512_S512_d1 h_S_

/-- Each token's expert number, wrapped around once where it is negative. -/
def starts (r : IVec S512x1 32) : IVec S512x1 32 :=
  broadcastInDim S512x1 ![0] bcast_S512_S512x1_0 (select (cmpi .slt (shapeCast S512 r shapeCasts_S512x1_S512) (broadcastInDim S512 ![] bcast_S_S512 (constantI S_ 32 0#32))) (addi (shapeCast S512 r shapeCasts_S512x1_S512) (broadcastInDim S512 ![] bcast_S_S512 (constantI S_ 32 32#32))) (shapeCast S512 r shapeCasts_S512x1_S512))

/-- The reference's result. -/
def ref (x : FVec Ideal S512x256 .f32) (r : IVec S512x1 32) (w : FVec Ideal S32x256x512 .f32) : FVec Ideal S512x512 .f32 :=
  select (broadcastInDim S512x512 ![0, 1] bcast_S512x1_S512x512_0_1 (broadcastInDim S512x1 ![0] bcast_S512_S512x1_0 (cmpi .slt (counts r) (broadcastInDim S512 ![] bcast_S_S512 (constantI S_ 32 12#32))))) (Host.dotGeneral dot_S512x256_S512x256x512_S512x512_1_1_n_2_0_0 none x (Host.gather gather_S32x256x512_S512x1_S512x256x512_12_0_n_n_0_1_1256512 w (starts r))) (broadcastInDim S512x512 ![] bcast_S_S512x512 (id (constant S_ .f32 0x00000000#32)))

/-- The dimension numbers of the reference's gather. -/
abbrev takeD : GatherDims S32x256x512 S512x1 S512x256x512 := gather_S32x256x512_S512x1_S512x256x512_12_0_n_n_0_1_1256512

/-- Along an expert matrix's own axes the gather starts at zero and reads the result's coordinate. -/
theorem take_inner (st : IVec S512x1 32) (j : S512x256x512.Idx) (a : Fin 3) (ha : a ≠ 0) :
    takeD.start j st a + takeD.batchCoord j a + takeD.offCoord j a = (j a).val := by
  have h1 : takeD.start j st a = 0 := by
    unfold GatherDims.start
    exact dif_neg (fun h => ha (List.mem_singleton.1 h))
  rw [h1, GatherDims.batchCoord_eq_zero _ _ _ List.not_mem_nil, Nat.zero_add]
  unfold GatherDims.offCoord
  rw [dif_pos ((GatherDims.mem_sKept _ _).2 ⟨fun h => ha (List.mem_singleton.1 h), List.not_mem_nil⟩)]
  match a, ha with
  | ⟨0, _⟩, ha => exact absurd rfl ha
  | ⟨1, _⟩, _ => rfl
  | ⟨2, _⟩, _ => rfl

/-- Along the experts the gather reads the token's start, clamped into the thirty-two. -/
theorem take_outer (st : IVec S512x1 32) (i : Fin 512) (d : Fin 256) (h : Fin 512) :
    takeD.start (ix3 i d h : S512x256x512.Idx) st 0 + takeD.batchCoord (ix3 i d h : S512x256x512.Idx) 0
      + takeD.offCoord (ix3 i d h : S512x256x512.Idx) 0 = min (st (ix2 i 0)).toInt.toNat 31 := by
  rw [GatherDims.batchCoord_eq_zero _ _ _ List.not_mem_nil,
    GatherDims.offCoord_eq_zero _ _ _ (fun hm => ((GatherDims.mem_sKept _ _).1 hm).1 (List.mem_singleton_self _))]
  unfold GatherDims.start
  rw [dif_pos (show (0 : Fin 3) ∈ takeD.startIndexMap from List.mem_singleton_self _)]
  refine congrArg (fun q => min (st q).toInt.toNat 31) (funext fun b => Fin.ext ?_)
  match b with
  | ⟨0, _⟩ => rfl
  | ⟨1, _⟩ => rfl

/-- A gathered matrix is the matrix at the token's start, read signed and clamped into the thirty-two. -/
theorem gather_eq (w : FVec Ideal S32x256x512 .f32) (st : IVec S512x1 32) (i : Fin 512) (d : Fin 256) (h : Fin 512) :
    Host.gather gather_S32x256x512_S512x1_S512x256x512_12_0_n_n_0_1_1256512 w st (ix3 i d h : S512x256x512.Idx)
      = w (ix3 ⟨min (st (ix2 i 0)).toInt.toNat 31, by omega⟩ d h) := by
  unfold Host.gather
  refine congrArg w (funext fun a => Fin.ext ?_)
  match a with
  | ⟨0, _⟩ => exact take_outer st i d h
  | ⟨1, _⟩ => exact take_inner st (ix3 i d h : S512x256x512.Idx) 1 (by decide)
  | ⟨2, _⟩ => exact take_inner st (ix3 i d h : S512x256x512.Idx) 2 (by decide)

variable (r : IVec S512x1 32) (hr : ∀ i : Fin 512, (r (ix2 i 0)).toNat < 32) (i : Fin 512)

/-- The reference's count is the number of earlier tokens of the same expert. -/
theorem counts_eq : counts r (ix1 i : S512.Idx) = BitVec.ofNat 32 (earlier (fun i => r (ix2 i 0)) i) := by
  pointwise [counts]
  rw [IndicatorCount.fold_addi_setWidth_eq_card, earlier, before]
  refine congrArg (fun s : Finset (Fin 512) => BitVec.ofNat 32 s.card) (Finset.filter_congr fun j _ => ?_)
  rw [IntOp.andi_eq_one, cmpi_eq_eq, ofBool_decide_eq_one_iff, cmpi_slt_ofNat_eq_one_iff (by omega) (by omega), eq_comm, Fin.lt_def]

include hr

/-- An expert number in range is not wrapped around. -/
theorem starts_eq : starts r (ix2 i 0 : S512x1.Idx) = r (ix2 i 0) := by
  pointwise [starts]
  have h := hr i
  rw [cmpi_slt_zero, decide_eq_false (by omega)]
  rfl

/-- The reference computes the result. -/
theorem ref_eq (x : FVec Ideal S512x256 .f32) (w : FVec Ideal S32x256x512 .f32) (h : Fin 512) :
    ref x r w (ix2 i h : S512x512.Idx) = moe (fun i => r (ix2 i 0)) x w i h := by
  have hlt := hr i
  have hc := earlier_lt (fun i => r (ix2 i 0)) i
  have hz : (id (constant (F := Ideal) S_ FTy.f32 0#32) ix0 : EReal) = 0 := Ideal.ofBits_zero_f32
  have hn : min (r (ix2 i 0)).toInt.toNat 31 = (r (ix2 i 0)).toNat % 32 := by
    rw [toInt_eq_toNat_of_lt_half (by omega)]; omega
  have hk : IntOp.cmpi .slt (BitVec.ofNat 32 (earlier (fun i => r (ix2 i 0)) i)) 12#32 = BitVec.ofBool (decide (Kept (fun i => r (ix2 i 0)) i)) :=
    cmpi_slt_ofNat (by omega) (by omega)
  pointwise [ref, gather_eq]
  rw [counts_eq, hz, hk]
  simp only [starts_eq r hr i, hn]
  unfold moe
  by_cases h : Kept (fun i => r (ix2 i 0)) i <;> simp [h, Scalar.select, expert]

end Cert.Plain
-- ==== Proof.Algebraic.lean ====
/- The idealized kernel's eight results are the eight row blocks of the reference's result. -/
module

public import proofs.«01_k».proof.Defs
public import proofs.«01_k».proof.Proof.Value.Device
public import proofs.«01_k».proof.Proof.Value.Reference
public import proofs.«01_k».proof.Proof.Gen.Pre_routed_KernelIdeal
public import Idealize.ShloMosaic.Lib.ReduceAll

@[expose] public section

set_option backward.proofsInPublic true
set_option maxRecDepth 16384

noncomputable section

namespace Cert.Proof

open Idealize.ShloMosaic Idealize.SL.Sem Idealize.ShloMosaic.WordCmp

/-- Under the precondition every expert number is below thirty-two. -/
theorem routed_lt (x : FVec Ideal ⟨2, ![512, 256]⟩ .f32) (g : FVec Ideal ⟨2, ![256, 32]⟩ .f32) (r : IVec ⟨2, ![512, 1]⟩ 32)
    (w : FVec Ideal ⟨3, ![4, 256, 512]⟩ .f32)
    (h : @Cert.Pre_routed_KernelIdeal.fn Cert.Pre_routed_KernelIdeal.Gen.facts Ideal _ x g r w = fun _ => 1#1) (i : Fin 512) :
    (r (ix2 i 0)).toNat < 32 := by
  haveI : Subsingleton Cert.Pre_routed_KernelIdeal.S_.Idx := ⟨fun a b => funext fun k => k.elim0⟩
  have h1 := Host.reduce_andi_all _ _ _ _ _ (congrFun h (fun k => k.elim0)) (ix2 i 0)
  obtain ⟨hge, hlt⟩ := IntOp.andi_eq_one.1 h1
  have hge : IntOp.cmpi .sge (r (ix2 i 0)) 0#32 = 1#1 := hge
  have hlt : IntOp.cmpi .slt (r (ix2 i 0)) 32#32 = 1#1 := hlt
  rw [cmpi_sge_zero, ofBool_decide_eq_one_iff] at hge
  rw [cmpi_slt_eq, ofBool_decide_eq_one_iff, toInt_eq_toNat_of_lt_half hge] at hlt
  have : (32#32 : BitVec 32).toInt = 32 := by decide
  omega

/-- Device `c`'s row `j` of the result's blocks is row `64 c + j`. -/
theorem block_rows (v : (⟨2, ![512, 512]⟩ : Shape).Idx → EReal) (c : Fin 8) (j : Fin 64) (h : Fin 512) (i : Fin 512)
    (hi : i.val = 64 * c.val + j.val) :
    (Layout.block ⟨2, ![64, 512]⟩ ⟨2, ![512, 512]⟩ 0 8 c v) (ix2 j h) = v (ix2 i h) := by
  rw [Layout.block_apply]
  refine congrArg v (funext fun a => Fin.ext ?_)
  rw [Layout.Tiles.idx_val]
  match a with
  | ⟨0, _⟩ => show c.val * 64 + j.val = i.val; omega
  | ⟨1, _⟩ => rfl

/-- With every token routed to one of the thirty-two experts, the kernel's results, put together, are the reference's. -/
theorem algebraic : Cert.algebraic_KernelIdeal_ReferenceIdeal_pre_routed_KernelIdeal (hKernelIdeal := Cert.KernelIdeal.Gen.facts)
    (hReferenceIdeal := Cert.ReferenceIdeal.Gen.facts) (hPre_routed_KernelIdeal := Cert.Pre_routed_KernelIdeal.Gen.facts) := by
  intro m ρ m' ρ' hpre hagree
  have hr (i : Fin 512) := routed_lt _ _ _ _ (hpre (0 : Fin 8)) i
  rw [(hagree (0 : Fin 8)).2.2.1] at hr
  refine ⟨Cert.Plain.ref (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run _ _ _).mono (fun _ h c => ⟨((h.1 c).1 (3 : Fin 4)).trans ?_, ((h.1 c).1 (0 : Fin 4)).trans (Cert.KernelIdeal.Moe.finalA_x m ρ c), (h.1 c).2,
      ((h.1 c).1 (2 : Fin 4)).trans (Cert.KernelIdeal.Moe.finalA_r m ρ c), ((h.1 c).1 (1 : Fin 4)).trans (Cert.KernelIdeal.Moe.finalA_w m ρ c)⟩)
      (Cert.KernelIdeal.Moe.run_main (F := Ideal) m ρ)
    refine (Cert.Device.finalA_out m ρ c).trans (funext fun q => ?_)
    obtain ⟨j, l, rfl⟩ : ∃ (j : Fin 64) (l : Fin 512), q = ix2 j l := ⟨q 0, q 1, eq_ix2 q⟩
    have hc : c.val < 8 := c.isLt
    have hj := j.isLt
    refine (Cert.Device.out_at m ρ _ _ _ (fun c => (hagree c).1) (fun c => (hagree c).2.2.1) (fun c => (hagree c).2.2.2) hr c j l
      ⟨64 * c.val + j.val, by omega⟩ rfl).trans ?_
    exact ((block_rows _ c j l ⟨64 * c.val + j.val, by omega⟩ rfl).trans (Cert.Plain.ref_eq _ hr _ _ _ l)).symm
  · exact (θ_run _ _ _).mono (fun _ h => h 0) (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Frames
public import proofs.«01_k».proof.Proof.Algebraic
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_routed_KernelIdeal.Gen.facts, Cert.Pre_routed_ReferenceIdeal.Gen.facts,
  frame_p, frame_pi, fun m g _ => frame_pi m g trivial, frame_ri, fun m g _ => frame_ri m g trivial, trivial, algebraic⟩

end Cert.Proof

end
